-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_predictions_ordered [hPre_predictions_ordered : Cert.Pre_predictions_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_predictions_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_predictions_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_predictions_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_predictions_ordered [hPre_predictions_ordered : Cert.Pre_predictions_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_predictions_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_predictions_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_predictions_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_predictions_ordered [hKernelIdeal : Cert.KernelIdeal.Facts] [hPre_predictions_ordered : Cert.Pre_predictions_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_predictions_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_predictions_ordered [hReferenceIdeal : Cert.ReferenceIdeal.Facts] [hPre_predictions_ordered : Cert.Pre_predictions_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_predictions_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_predictions_ordered [hKernelIdeal : Cert.KernelIdeal.Facts] [hReferenceIdeal : Cert.ReferenceIdeal.Facts] [hPre_predictions_ordered : Cert.Pre_predictions_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_predictions_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_predictions_ordered : Cert.Pre_predictions_ordered.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_predictions_ordered (hKernelIdeal := hKernelIdeal) (hPre_predictions_ordered := hPre_predictions_ordered)
    ∧ quiescent_ReferenceIdeal (hReferenceIdeal := hReferenceIdeal)
    ∧ quiescent_ReferenceIdeal_pre_predictions_ordered (hReferenceIdeal := hReferenceIdeal) (hPre_predictions_ordered := hPre_predictions_ordered)
    ∧ preserves_Kernel_KernelIdeal
    ∧ algebraic_KernelIdeal_ReferenceIdeal_pre_predictions_ordered (hKernelIdeal := hKernelIdeal) (hReferenceIdeal := hReferenceIdeal) (hPre_predictions_ordered := hPre_predictions_ordered)
-- ==== Pre_labels_in_range.lean ====
abbrev S16x80x100x100x4 : Shape := ⟨5, ![16, 80, 100, 100, 4]⟩
abbrev S16x32x4 : Shape := ⟨3, ![16, 32, 4]⟩
abbrev S16x32 : Shape := ⟨2, ![16, 32]⟩
abbrev S_ : Shape := ⟨0, ![]⟩

class Facts : Prop where
  bcast_S_S16x32 : S_.BroadcastsInDim S16x32 (![] : Fin 0 → Fin S16x32.rank)

variable [Facts]

def fn {F : FTy → Type} [FloatOps F] (main_arg0 : FVec F S16x80x100x100x4 .f32) (main_arg1 : FVec F S16x32x4 .f32) (main_arg2 : IVec S16x32 32) : IVec S16x32 1 :=
  let main_c : IVec S_ 32 := constantI S_ 32 0#32
  let main_v0 : IVec S16x32 32 := broadcastInDim S16x32 ![] bcast_S_S16x32 main_c
  let main_v1 : IVec S16x32 1 := cmpi .sge main_arg2 main_v0
  let main_c_0 : IVec S_ 32 := constantI S_ 32 80#32
  let main_v2 : IVec S16x32 32 := broadcastInDim S16x32 ![] bcast_S_S16x32 main_c_0
  let main_v3 : IVec S16x32 1 := cmpi .slt main_arg2 main_v2
  let main_v4 : IVec S16x32 1 := andi main_v1 main_v3
  main_v4
-- ==== Pre_predictions_ordered.lean ====
abbrev S16x80x100x100x4 : Shape := ⟨5, ![16, 80, 100, 100, 4]⟩
abbrev S16x32x4 : Shape := ⟨3, ![16, 32, 4]⟩
abbrev S16x32 : Shape := ⟨2, ![16, 32]⟩
abbrev S_ : Shape := ⟨0, ![]⟩
abbrev S16x80x100x100x2 : Shape := ⟨5, ![16, 80, 100, 100, 2]⟩

class Facts : Prop where
  bcast_S_S16x32 : S_.BroadcastsInDim S16x32 (![] : Fin 0 → Fin S16x32.rank)
  slices_S16x80x100x100x4_S16x80x100x100x2_0_0_0_0_0 : S16x80x100x100x4.Slices ![0, 0, 0, 0, 0] S16x80x100x100x2
  slices_S16x80x100x100x4_S16x80x100x100x2_0_0_0_0_2 : S16x80x100x100x4.Slices ![0, 0, 0, 0, 2] S16x80x100x100x2
  bcast_S_S16x32x4 : S_.BroadcastsInDim S16x32x4 (![] : Fin 0 → Fin S16x32x4.rank)

variable [Facts]

def fn {F : FTy → Type} [FloatOps F] (main_arg0 : FVec F S16x80x100x100x4 .f32) (main_arg1 : FVec F S16x32x4 .f32) (main_arg2 : IVec S16x32 32) : IVec S16x32 1 × IVec S16x80x100x100x2 1 × IVec S16x32x4 1 :=
  let main_c : IVec S_ 32 := constantI S_ 32 0#32
  let main_v0 : IVec S16x32 32 := broadcastInDim S16x32 ![] bcast_S_S16x32 main_c
  let main_v1 : IVec S16x32 1 := cmpi .sge main_arg2 main_v0
  let main_c_0 : IVec S_ 32 := constantI S_ 32 80#32
  let main_v2 : IVec S16x32 32 := broadcastInDim S16x32 ![] bcast_S_S16x32 main_c_0
  let main_v3 : IVec S16x32 1 := cmpi .slt main_arg2 main_v2
  let main_v4 : IVec S16x32 1 := andi main_v1 main_v3
  let main_v5 : FVec F S16x80x100x100x2 .f32 := (extractStridedSlice S16x80x100x100x2 ![0, 0, 0, 0, 0] · slices_S16x80x100x100x4_S16x80x100x100x2_0_0_0_0_0) main_arg0
  let main_v6 : FVec F S16x80x100x100x2 .f32 := (extractStridedSlice S16x80x100x100x2 ![0, 0, 0, 0, 2] · slices_S16x80x100x100x4_S16x80x100x100x2_0_0_0_0_2) main_arg0
  let main_v7 : IVec S16x80x100x100x2 1 := cmpf .ole main_v5 main_v6
  let main_v8 : FVec F S16x32x4 .f32 := Host.absf main_arg1
  let main_cst : FVec F S_ .f32 := constant S_ .f32 0x7F800000#32
  let main_v9 : FVec F S16x32x4 .f32 := broadcastInDim S16x32x4 ![] bcast_S_S16x32x4 main_cst
  let main_v10 : IVec S16x32x4 1 := cmpf .olt main_v8 main_v9
  (main_v4, main_v7, main_v10)
-- ==== Kernel.lean ====
abbrev S16x80x100x100x4 : Shape := ⟨5, ![16, 80, 100, 100, 4]⟩
abbrev S16x32x4 : Shape := ⟨3, ![16, 32, 4]⟩
abbrev S16x32 : Shape := ⟨2, ![16, 32]⟩
abbrev S16x80x100x4x100 : Shape := ⟨5, ![16, 80, 100, 4, 100]⟩
abbrev S16x80x400x100 : Shape := ⟨4, ![16, 80, 400, 100]⟩
abbrev S2048 : Shape := ⟨1, ![2048]⟩
abbrev S512 : Shape := ⟨1, ![512]⟩
abbrev S16x32x128 : Shape := ⟨3, ![16, 32, 128]⟩
abbrev S1x1x400x100 : Shape := ⟨4, ![1, 1, 400, 100]⟩
abbrev S1 : Shape := ⟨1, ![1]⟩
abbrev S1x32x128 : Shape := ⟨3, ![1, 32, 128]⟩
abbrev S32x100x100 : Shape := ⟨3, ![32, 100, 100]⟩
abbrev S1x1x100x100 : Shape := ⟨4, ![1, 1, 100, 100]⟩
abbrev S100x100 : Shape := ⟨2, ![100, 100]⟩
abbrev S1x100x100 : Shape := ⟨3, ![1, 100, 100]⟩
abbrev S100 : Shape := ⟨1, ![100]⟩
abbrev S1x100 : Shape := ⟨2, ![1, 100]⟩
abbrev S1x1 : Shape := ⟨2, ![1, 1]⟩
abbrev S1x128 : Shape := ⟨2, ![1, 128]⟩
abbrev S32x128 : Shape := ⟨2, ![32, 128]⟩
abbrev S16x32x1 : Shape := ⟨3, ![16, 32, 1]⟩
abbrev S_ : Shape := ⟨0, ![]⟩

abbrev nBuf : Space → Nat
  | .hbm => 28
  | .vmem => 67
  | .smem => 2
  | _ => 0

abbrev bufTy : (tb : Table) → Fin (tcTables nBuf tb) → BufTy
  | .hbm, ⟨0, _⟩ => ⟨S16x80x100x100x4, .f32⟩
  | .hbm, ⟨1, _⟩ => ⟨S16x32x4, .f32⟩
  | .hbm, ⟨2, _⟩ => ⟨S16x32, .i32⟩
  | .hbm, ⟨3, _⟩ => ⟨S16x80x100x4x100, .f32⟩
  | .hbm, ⟨4, _⟩ => ⟨S16x80x400x100, .f32⟩
  | .hbm, ⟨5, _⟩ => ⟨S2048, .f32⟩
  | .hbm, ⟨6, _⟩ => ⟨S16x32x128, .f32⟩
  | .hbm, ⟨7, _⟩ => ⟨S16x32x1, .f32⟩
  | .hbm, ⟨8, _⟩ => ⟨S16x32, .f32⟩
  | .hbm, ⟨9, _⟩ => ⟨S_, .f32⟩
  | .hbm, ⟨10, _⟩ => ⟨S_, .f32⟩
  | .hbm, ⟨11, _⟩ => ⟨S16x32x1, .f32⟩
  | .hbm, ⟨12, _⟩ => ⟨S16x32, .f32⟩
  | .hbm, ⟨13, _⟩ => ⟨S_, .f32⟩
  | .hbm, ⟨14, _⟩ => ⟨S_, .f32⟩
  | .hbm, ⟨15, _⟩ => ⟨S16x32x1, .f32⟩
  | .hbm, ⟨16, _⟩ => ⟨S16x32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x1x400x100, .f32⟩
  | .local _ .vmem, ⟨1, _⟩ => ⟨S1x1x400x100, .f32⟩
  | .local _ .vmem, ⟨2, _⟩ => ⟨S1x1x400x100, .f32⟩
  | .local _ .vmem, ⟨3, _⟩ => ⟨S1x1x400x100, .f32⟩
  | .local _ .vmem, ⟨4, _⟩ => ⟨S1x1x400x100, .f32⟩
  | .local _ .vmem, ⟨5, _⟩ => ⟨S1x1x400x100, .f32⟩
  | .local _ .vmem, ⟨6, _⟩ => ⟨S1x1x400x100, .f32⟩
  | .local _ .vmem, ⟨7, _⟩ => ⟨S1x1x400x100, .f32⟩
  | .local _ .vmem, ⟨8, _⟩ => ⟨S1x1x400x100, .f32⟩
  | .local _ .vmem, ⟨9, _⟩ => ⟨S1x1x400x100, .f32⟩
  | .local _ .vmem, ⟨10, _⟩ => ⟨S1x1x400x100, .f32⟩
  | .local _ .vmem, ⟨11, _⟩ => ⟨S1x1x400x100, .f32⟩
  | .local _ .vmem, ⟨12, _⟩ => ⟨S1x1x400x100, .f32⟩
  | .local _ .vmem, ⟨13, _⟩ => ⟨S1x1x400x100, .f32⟩
  | .local _ .vmem, ⟨14, _⟩ => ⟨S1x1x400x100, .f32⟩
  | .local _ .vmem, ⟨15, _⟩ => ⟨S1x1x400x100, .f32⟩
  | .local _ .vmem, ⟨16, _⟩ => ⟨S1x1x400x100, .f32⟩
  | .local _ .vmem, ⟨17, _⟩ => ⟨S1x1x400x100, .f32⟩
  | .local _ .vmem, ⟨18, _⟩ => ⟨S1x1x400x100, .f32⟩
  | .local _ .vmem, ⟨19, _⟩ => ⟨S1x1x400x100, .f32⟩
  | .local _ .vmem, ⟨20, _⟩ => ⟨S1x1x400x100, .f32⟩
  | .local _ .vmem, ⟨21, _⟩ => ⟨S1x1x400x100, .f32⟩
  | .local _ .vmem, ⟨22, _⟩ => ⟨S1x1x400x100, .f32⟩
  | .local _ .vmem, ⟨23, _⟩ => ⟨S1x1x400x100, .f32⟩
  | .local _ .vmem, ⟨24, _⟩ => ⟨S1x1x400x100, .f32⟩
  | .local _ .vmem, ⟨25, _⟩ => ⟨S1x1x400x100, .f32⟩
  | .local _ .vmem, ⟨26, _⟩ => ⟨S1x1x400x100, .f32⟩
  | .local _ .vmem, ⟨27, _⟩ => ⟨S1x1x400x100, .f32⟩
  | .local _ .vmem, ⟨28, _⟩ => ⟨S1x1x400x100, .f32⟩
  | .local _ .vmem, ⟨29, _⟩ => ⟨S1x1x400x100, .f32⟩
  | .local _ .vmem, ⟨30, _⟩ => ⟨S1x1x400x100, .f32⟩
  | .local _ .vmem, ⟨31, _⟩ => ⟨S1x1x400x100, .f32⟩
  | .local _ .vmem, ⟨32, _⟩ => ⟨S1x1x400x100, .f32⟩
  | .local _ .vmem, ⟨33, _⟩ => ⟨S1x1x400x100, .f32⟩
  | .local _ .vmem, ⟨34, _⟩ => ⟨S1x1x400x100, .f32⟩
  | .local _ .vmem, ⟨35, _⟩ => ⟨S1x1x400x100, .f32⟩
  | .local _ .vmem, ⟨36, _⟩ => ⟨S1x1x400x100, .f32⟩
  | .local _ .vmem, ⟨37, _⟩ => ⟨S1x1x400x100, .f32⟩
  | .local _ .vmem, ⟨38, _⟩ => ⟨S1x1x400x100, .f32⟩
  | .local _ .vmem, ⟨39, _⟩ => ⟨S1x1x400x100, .f32⟩
  | .local _ .vmem, ⟨40, _⟩ => ⟨S1x1x400x100, .f32⟩
  | .local _ .vmem, ⟨41, _⟩ => ⟨S1x1x400x100, .f32⟩
  | .local _ .vmem, ⟨42, _⟩ => ⟨S1x1x400x100, .f32⟩
  | .local _ .vmem, ⟨43, _⟩ => ⟨S1x1x400x100, .f32⟩
  | .local _ .vmem, ⟨44, _⟩ => ⟨S1x1x400x100, .f32⟩
  | .local _ .vmem, ⟨45, _⟩ => ⟨S1x1x400x100, .f32⟩
  | .local _ .vmem, ⟨46, _⟩ => ⟨S1x1x400x100, .f32⟩
  | .local _ .vmem, ⟨47, _⟩ => ⟨S1x1x400x100, .f32⟩
  | .local _ .vmem, ⟨48, _⟩ => ⟨S1x1x400x100, .f32⟩
  | .local _ .vmem, ⟨49, _⟩ => ⟨S1x1x400x100, .f32⟩
  | .local _ .vmem, ⟨50, _⟩ => ⟨S1x1x400x100, .f32⟩
  | .local _ .vmem, ⟨51, _⟩ => ⟨S1x1x400x100, .f32⟩
  | .local _ .vmem, ⟨52, _⟩ => ⟨S1x1x400x100, .f32⟩
  | .local _ .vmem, ⟨53, _⟩ => ⟨S1x1x400x100, .f32⟩
  | .local _ .vmem, ⟨54, _⟩ => ⟨S1x1x400x100, .f32⟩
  | .local _ .vmem, ⟨55, _⟩ => ⟨S1x1x400x100, .f32⟩
  | .local _ .vmem, ⟨56, _⟩ => ⟨S1x1x400x100, .f32⟩
  | .local _ .vmem, ⟨57, _⟩ => ⟨S1x1x400x100, .f32⟩
  | .local _ .vmem, ⟨58, _⟩ => ⟨S1x1x400x100, .f32⟩
  | .local _ .vmem, ⟨59, _⟩ => ⟨S1x1x400x100, .f32⟩
  | .local _ .vmem, ⟨60, _⟩ => ⟨S1x1x400x100, .f32⟩
  | .local _ .vmem, ⟨61, _⟩ => ⟨S1x1x400x100, .f32⟩
  | .local _ .vmem, ⟨62, _⟩ => ⟨S1x1x400x100, .f32⟩
  | .local _ .vmem, ⟨63, _⟩ => ⟨S1x1x400x100, .f32⟩
  | .local _ .vmem, ⟨64, _⟩ => ⟨S1x32x128, .f32⟩
  | .local _ .vmem, ⟨65, _⟩ => ⟨S1x32x128, .f32⟩
  | .local _ .vmem, ⟨66, _⟩ => ⟨S32x100x100, .f32⟩
  | .local _ .smem, ⟨0, _⟩ => ⟨S512, .i32⟩
  | .local _ .smem, ⟨1, _⟩ => ⟨S2048, .f32⟩
  | _, _ => ⟨S16x80x100x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .smem, ⟨1, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg33_0 : Ref sig .tc := ⟨.vmem, 64, rfl⟩
abbrev cc0_stg33_1 : Ref sig .tc := ⟨.vmem, 65, rfl⟩
abbrev cc0_scratch0 : Ref sig .tc := ⟨.vmem, 66, rfl⟩
abbrev cc0_stg32_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem33_0 : DmaSem sig := 65
abbrev cc0_sem33_1 : DmaSem sig := 66

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_7 : BitVec 32) : Fin 1 → Nat :=
  let arg0 : BitVec 32 := BitVec.ofNat 32 (i 0).val
  let c32_i32_6 : BitVec 32 := 32#32
  let v19 : BitVec 32 := Scalar.muli arg0 c32_i32_6
  let v20 : BitVec 32 := Scalar.addi v19 c0_i32_7
  let v21 : Index := Scalar.indexCast v20
  ![v21.toNat]
def k0_off2 (i : grid0.Coords) (c0_i32 : BitVec 32) (c0_i32_0 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let c4_i32 : BitVec 32 := 4#32
  let v2 : BitVec 32 := Scalar.muli v1 c4_i32
  let v3 : BitVec 32 := Scalar.addi v2 c0_i32_0
  let v4 : Index := Scalar.indexCast v3
  ![v4.toNat]
def cc0_transform_0 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let c32_i32_0 : BitVec 32 := 32#32
  let v2 : BitVec 32 := Scalar.divsi v1 c32_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c32_i32_0 c0_i32_3
  let v9 : BitVec 32 := Scalar.extui v8
  let c0_i32_4 : BitVec 32 := 0#32
  let v10 : BitVec 1 := Scalar.cmpi .slt c32_i32_0 c0_i32_4
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c32_i32_6 : BitVec 32 := 32#32
  let v19 : BitVec 32 := Scalar.muli arg0 c32_i32_6
  let c0_i32_7 : BitVec 32 := 0#32
  let v20 : BitVec 32 := Scalar.addi v19 c0_i32_7
  let v21 : Index := Scalar.indexCast v20
  let v22 : BitVec 32 := pf.at 0 (Rect.unit (s := S512) ![v21.toNat] S1.size (k0_off1_inb i 0)) numel1_S1
  let c0_i32_8 : BitVec 32 := 0#32
  let c0_i32_9 : BitVec 32 := 0#32
  let c0_i32_10 : BitVec 32 := 0#32
  ![v18.toNat, v22.toNat, c0_i32_8.toNat, c0_i32_9.toNat]

def cc0_transform_1 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32_6 : BitVec 32 := 32#32
  let v19 : BitVec 32 := Scalar.muli arg0 c32_i32_6
  let c1_i32_7 : BitVec 32 := 1#32
  let v20 : BitVec 32 := Scalar.addi v19 c1_i32_7
  let v21 : Index := Scalar.indexCast v20
  let v22 : BitVec 32 := pf.at 0 (Rect.unit (s := S512) ![v21.toNat] S1.size (k0_off1_inb i 1)) numel1_S1
  let c0_i32_8 : BitVec 32 := 0#32
  let c0_i32_9 : BitVec 32 := 0#32
  let c0_i32_10 : BitVec 32 := 0#32
  ![v18.toNat, v22.toNat, c0_i32_8.toNat, c0_i32_9.toNat]

def cc0_transform_2 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c2_i32_6 : BitVec 32 := 2#32
  let v20 : BitVec 32 := Scalar.addi v19 c2_i32_6
  let v21 : Index := Scalar.indexCast v20
  let v22 : BitVec 32 := pf.at 0 (Rect.unit (s := S512) ![v21.toNat] S1.size (k0_off1_inb i 2)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_3 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c3_i32_6 : BitVec 32 := 3#32
  let v20 : BitVec 32 := Scalar.addi v19 c3_i32_6
  let v21 : Index := Scalar.indexCast v20
  let v22 : BitVec 32 := pf.at 0 (Rect.unit (s := S512) ![v21.toNat] S1.size (k0_off1_inb i 3)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_4 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c4_i32_6 : BitVec 32 := 4#32
  let v20 : BitVec 32 := Scalar.addi v19 c4_i32_6
  let v21 : Index := Scalar.indexCast v20
  let v22 : BitVec 32 := pf.at 0 (Rect.unit (s := S512) ![v21.toNat] S1.size (k0_off1_inb i 4)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_5 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c5_i32_6 : BitVec 32 := 5#32
  let v20 : BitVec 32 := Scalar.addi v19 c5_i32_6
  let v21 : Index := Scalar.indexCast v20
  let v22 : BitVec 32 := pf.at 0 (Rect.unit (s := S512) ![v21.toNat] S1.size (k0_off1_inb i 5)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_6 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c6_i32_6 : BitVec 32 := 6#32
  let v20 : BitVec 32 := Scalar.addi v19 c6_i32_6
  let v21 : Index := Scalar.indexCast v20
  let v22 : BitVec 32 := pf.at 0 (Rect.unit (s := S512) ![v21.toNat] S1.size (k0_off1_inb i 6)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_7 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c7_i32_6 : BitVec 32 := 7#32
  let v20 : BitVec 32 := Scalar.addi v19 c7_i32_6
  let v21 : Index := Scalar.indexCast v20
  let v22 : BitVec 32 := pf.at 0 (Rect.unit (s := S512) ![v21.toNat] S1.size (k0_off1_inb i 7)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_8 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c8_i32_6 : BitVec 32 := 8#32
  let v20 : BitVec 32 := Scalar.addi v19 c8_i32_6
  let v21 : Index := Scalar.indexCast v20
  let v22 : BitVec 32 := pf.at 0 (Rect.unit (s := S512) ![v21.toNat] S1.size (k0_off1_inb i 8)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_9 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c9_i32_6 : BitVec 32 := 9#32
  let v20 : BitVec 32 := Scalar.addi v19 c9_i32_6
  let v21 : Index := Scalar.indexCast v20
  let v22 : BitVec 32 := pf.at 0 (Rect.unit (s := S512) ![v21.toNat] S1.size (k0_off1_inb i 9)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_10 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c10_i32_6 : BitVec 32 := 10#32
  let v20 : BitVec 32 := Scalar.addi v19 c10_i32_6
  let v21 : Index := Scalar.indexCast v20
  let v22 : BitVec 32 := pf.at 0 (Rect.unit (s := S512) ![v21.toNat] S1.size (k0_off1_inb i 10)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_11 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c11_i32_6 : BitVec 32 := 11#32
  let v20 : BitVec 32 := Scalar.addi v19 c11_i32_6
  let v21 : Index := Scalar.indexCast v20
  let v22 : BitVec 32 := pf.at 0 (Rect.unit (s := S512) ![v21.toNat] S1.size (k0_off1_inb i 11)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_12 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c12_i32_6 : BitVec 32 := 12#32
  let v20 : BitVec 32 := Scalar.addi v19 c12_i32_6
  let v21 : Index := Scalar.indexCast v20
  let v22 : BitVec 32 := pf.at 0 (Rect.unit (s := S512) ![v21.toNat] S1.size (k0_off1_inb i 12)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_13 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c13_i32_6 : BitVec 32 := 13#32
  let v20 : BitVec 32 := Scalar.addi v19 c13_i32_6
  let v21 : Index := Scalar.indexCast v20
  let v22 : BitVec 32 := pf.at 0 (Rect.unit (s := S512) ![v21.toNat] S1.size (k0_off1_inb i 13)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_14 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c14_i32_6 : BitVec 32 := 14#32
  let v20 : BitVec 32 := Scalar.addi v19 c14_i32_6
  let v21 : Index := Scalar.indexCast v20
  let v22 : BitVec 32 := pf.at 0 (Rect.unit (s := S512) ![v21.toNat] S1.size (k0_off1_inb i 14)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_15 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c15_i32_6 : BitVec 32 := 15#32
  let v20 : BitVec 32 := Scalar.addi v19 c15_i32_6
  let v21 : Index := Scalar.indexCast v20
  let v22 : BitVec 32 := pf.at 0 (Rect.unit (s := S512) ![v21.toNat] S1.size (k0_off1_inb i 15)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_16 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c16_i32_6 : BitVec 32 := 16#32
  let v20 : BitVec 32 := Scalar.addi v19 c16_i32_6
  let v21 : Index := Scalar.indexCast v20
  let v22 : BitVec 32 := pf.at 0 (Rect.unit (s := S512) ![v21.toNat] S1.size (k0_off1_inb i 16)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_17 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c17_i32_6 : BitVec 32 := 17#32
  let v20 : BitVec 32 := Scalar.addi v19 c17_i32_6
  let v21 : Index := Scalar.indexCast v20
  let v22 : BitVec 32 := pf.at 0 (Rect.unit (s := S512) ![v21.toNat] S1.size (k0_off1_inb i 17)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_18 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c18_i32_6 : BitVec 32 := 18#32
  let v20 : BitVec 32 := Scalar.addi v19 c18_i32_6
  let v21 : Index := Scalar.indexCast v20
  let v22 : BitVec 32 := pf.at 0 (Rect.unit (s := S512) ![v21.toNat] S1.size (k0_off1_inb i 18)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_19 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c19_i32_6 : BitVec 32 := 19#32
  let v20 : BitVec 32 := Scalar.addi v19 c19_i32_6
  let v21 : Index := Scalar.indexCast v20
  let v22 : BitVec 32 := pf.at 0 (Rect.unit (s := S512) ![v21.toNat] S1.size (k0_off1_inb i 19)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_20 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c20_i32_6 : BitVec 32 := 20#32
  let v20 : BitVec 32 := Scalar.addi v19 c20_i32_6
  let v21 : Index := Scalar.indexCast v20
  let v22 : BitVec 32 := pf.at 0 (Rect.unit (s := S512) ![v21.toNat] S1.size (k0_off1_inb i 20)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_21 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c21_i32_6 : BitVec 32 := 21#32
  let v20 : BitVec 32 := Scalar.addi v19 c21_i32_6
  let v21 : Index := Scalar.indexCast v20
  let v22 : BitVec 32 := pf.at 0 (Rect.unit (s := S512) ![v21.toNat] S1.size (k0_off1_inb i 21)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_22 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c22_i32_6 : BitVec 32 := 22#32
  let v20 : BitVec 32 := Scalar.addi v19 c22_i32_6
  let v21 : Index := Scalar.indexCast v20
  let v22 : BitVec 32 := pf.at 0 (Rect.unit (s := S512) ![v21.toNat] S1.size (k0_off1_inb i 22)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_23 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c23_i32_6 : BitVec 32 := 23#32
  let v20 : BitVec 32 := Scalar.addi v19 c23_i32_6
  let v21 : Index := Scalar.indexCast v20
  let v22 : BitVec 32 := pf.at 0 (Rect.unit (s := S512) ![v21.toNat] S1.size (k0_off1_inb i 23)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_24 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c24_i32_6 : BitVec 32 := 24#32
  let v20 : BitVec 32 := Scalar.addi v19 c24_i32_6
  let v21 : Index := Scalar.indexCast v20
  let v22 : BitVec 32 := pf.at 0 (Rect.unit (s := S512) ![v21.toNat] S1.size (k0_off1_inb i 24)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_25 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c25_i32_6 : BitVec 32 := 25#32
  let v20 : BitVec 32 := Scalar.addi v19 c25_i32_6
  let v21 : Index := Scalar.indexCast v20
  let v22 : BitVec 32 := pf.at 0 (Rect.unit (s := S512) ![v21.toNat] S1.size (k0_off1_inb i 25)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_26 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c26_i32_6 : BitVec 32 := 26#32
  let v20 : BitVec 32 := Scalar.addi v19 c26_i32_6
  let v21 : Index := Scalar.indexCast v20
  let v22 : BitVec 32 := pf.at 0 (Rect.unit (s := S512) ![v21.toNat] S1.size (k0_off1_inb i 26)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_27 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c27_i32_6 : BitVec 32 := 27#32
  let v20 : BitVec 32 := Scalar.addi v19 c27_i32_6
  let v21 : Index := Scalar.indexCast v20
  let v22 : BitVec 32 := pf.at 0 (Rect.unit (s := S512) ![v21.toNat] S1.size (k0_off1_inb i 27)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_28 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c28_i32_6 : BitVec 32 := 28#32
  let v20 : BitVec 32 := Scalar.addi v19 c28_i32_6
  let v21 : Index := Scalar.indexCast v20
  let v22 : BitVec 32 := pf.at 0 (Rect.unit (s := S512) ![v21.toNat] S1.size (k0_off1_inb i 28)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_29 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c29_i32_6 : BitVec 32 := 29#32
  let v20 : BitVec 32 := Scalar.addi v19 c29_i32_6
  let v21 : Index := Scalar.indexCast v20
  let v22 : BitVec 32 := pf.at 0 (Rect.unit (s := S512) ![v21.toNat] S1.size (k0_off1_inb i 29)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_30 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c30_i32_6 : BitVec 32 := 30#32
  let v20 : BitVec 32 := Scalar.addi v19 c30_i32_6
  let v21 : Index := Scalar.indexCast v20
  let v22 : BitVec 32 := pf.at 0 (Rect.unit (s := S512) ![v21.toNat] S1.size (k0_off1_inb i 30)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_31 (k0_off1_inb : ∀ i : grid0.Coords, ∀ (r : Fin 32), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let c31_i32_6 : BitVec 32 := 31#32
  let v20 : BitVec 32 := Scalar.addi v19 c31_i32_6
  let v21 : Index := Scalar.indexCast v20
  let v22 : BitVec 32 := pf.at 0 (Rect.unit (s := S512) ![v21.toNat] S1.size (k0_off1_inb i 31)) numel1_S1
  let c0_i32_7 : BitVec 32 := 0#32
  let c0_i32_8 : BitVec 32 := 0#32
  let c0_i32_9 : BitVec 32 := 0#32
  ![v18.toNat, v22.toNat, c0_i32_7.toNat, c0_i32_8.toNat]

def cc0_transform_32 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x400x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x400x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x400x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x400x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x400x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x400x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x400x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x400x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x400x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x400x100 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x400x100 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x400x100 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x400x100 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x400x100 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x400x100 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x400x100 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x400x100 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x400x100 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x400x100 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x400x100 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x400x100 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x400x100 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x400x100 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x400x100 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x400x100 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x400x100 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x400x100 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x400x100 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x400x100 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x400x100 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x400x100 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x400x100 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 1 → Memref sig .tc .smem S2048 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 2 → Memref sig .tc .vmem S1x32x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]
-- ==== ReferenceIdeal.lean ====
abbrev S16x80x100x100x4 : Shape := ⟨5, ![16, 80, 100, 100, 4]⟩
abbrev S16x32x4 : Shape := ⟨3, ![16, 32, 4]⟩
abbrev S16x32 : Shape := ⟨2, ![16, 32]⟩
abbrev S100 : Shape := ⟨1, ![100]⟩
abbrev S_ : Shape := ⟨0, ![]⟩
abbrev S16x32x1 : Shape := ⟨3, ![16, 32, 1]⟩
abbrev S16x32x2 : Shape := ⟨3, ![16, 32, 2]⟩
abbrev S16x32x100x100x4 : Shape := ⟨5, ![16, 32, 100, 100, 4]⟩
abbrev S16x32x1x1x4 : Shape := ⟨5, ![16, 32, 1, 1, 4]⟩
abbrev S16x32x100x100x1 : Shape := ⟨5, ![16, 32, 100, 100, 1]⟩
abbrev S16x32x100x100 : Shape := ⟨4, ![16, 32, 100, 100]⟩
abbrev S16x32x1x1x1 : Shape := ⟨5, ![16, 32, 1, 1, 1]⟩
abbrev S16x32x1x1 : Shape := ⟨4, ![16, 32, 1, 1]⟩
abbrev S16x32x100x100x2 : Shape := ⟨5, ![16, 32, 100, 100, 2]⟩
abbrev S16x32x1x1x2 : Shape := ⟨5, ![16, 32, 1, 1, 2]⟩
abbrev S16x32x10000 : Shape := ⟨3, ![16, 32, 10000]⟩
abbrev S1x1x100 : Shape := ⟨3, ![1, 1, 100]⟩
abbrev S16x32x100 : Shape := ⟨3, ![16, 32, 100]⟩
abbrev S16x32x100x1 : Shape := ⟨4, ![16, 32, 100, 1]⟩
abbrev S16x32x1x100 : Shape := ⟨4, ![16, 32, 1, 100]⟩

abbrev nBuf : Space → Nat
  | .hbm => 223
  | .vmem => 0
  | .smem => 0
  | _ => 0

abbrev hbmTy0_0 (i : Nat) : BufTy := match i % 128 with
  | 0 => ⟨S16x80x100x100x4, .f32⟩
  | 1 => ⟨S16x32x4, .f32⟩
  | 2 => ⟨S16x32, .i32⟩
  | 3 => ⟨S100, .i32⟩
  | 4 => ⟨S100, .i32⟩
  | 5 => ⟨S16x32, .i32⟩
  | 6 => ⟨S_, .i32⟩
  | 7 => ⟨S16x32, .i32⟩
  | 8 => ⟨S16x32, .i1⟩
  | 9 => ⟨S_, .i32⟩
  | 10 => ⟨S16x32, .i32⟩
  | 11 => ⟨S16x32, .i32⟩
  | 12 => ⟨S16x32, .i32⟩
  | 13 => ⟨S_, .i32⟩
  | 14 => ⟨S16x32, .i32⟩
  | 15 => ⟨S16x32, .i1⟩
  | 16 => ⟨S_, .i32⟩
  | 17 => ⟨S16x32, .i32⟩
  | 18 => ⟨S16x32, .i32⟩
  | 19 => ⟨S16x32, .i32⟩
  | 20 => ⟨S16x32x1, .i32⟩
  | 21 => ⟨S16x32x1, .i32⟩
  | 22 => ⟨S16x32x2, .i32⟩
  | 23 => ⟨S16x32x100x100x4, .f32⟩
  | 24 => ⟨S16x32x1x1x4, .f32⟩
  | 25 => ⟨S16x32x100x100x1, .f32⟩
  | 26 => ⟨S16x32x100x100, .f32⟩
  | 27 => ⟨S16x32x100x100x1, .f32⟩
  | 28 => ⟨S16x32x100x100, .f32⟩
  | 29 => ⟨S16x32x100x100, .f32⟩
  | 30 => ⟨S16x32x100x100x1, .f32⟩
  | 31 => ⟨S16x32x100x100, .f32⟩
  | 32 => ⟨S16x32x100x100x1, .f32⟩
  | 33 => ⟨S16x32x100x100, .f32⟩
  | 34 => ⟨S16x32x100x100, .f32⟩
  | 35 => ⟨S16x32x100x100, .f32⟩
  | 36 => ⟨S16x32x1x1x1, .f32⟩
  | 37 => ⟨S16x32x1x1, .f32⟩
  | 38 => ⟨S16x32x1x1x1, .f32⟩
  | 39 => ⟨S16x32x1x1, .f32⟩
  | 40 => ⟨S16x32x1x1, .f32⟩
  | 41 => ⟨S16x32x1x1x1, .f32⟩
  | 42 => ⟨S16x32x1x1, .f32⟩
  | 43 => ⟨S16x32x1x1x1, .f32⟩
  | 44 => ⟨S16x32x1x1, .f32⟩
  | 45 => ⟨S16x32x1x1, .f32⟩
  | 46 => ⟨S16x32x1x1, .f32⟩
  | 47 => ⟨S16x32x100x100x2, .f32⟩
  | 48 => ⟨S16x32x1x1x2, .f32⟩
  | 49 => ⟨S16x32x100x100x2, .f32⟩
  | 50 => ⟨S16x32x100x100x2, .f32⟩
  | 51 => ⟨S16x32x100x100x2, .f32⟩
  | 52 => ⟨S16x32x1x1x2, .f32⟩
  | 53 => ⟨S16x32x100x100x2, .f32⟩
  | 54 => ⟨S16x32x100x100x2, .f32⟩
  | 55 => ⟨S16x32x100x100x2, .f32⟩
  | 56 => ⟨S_, .f32⟩
  | 57 => ⟨S16x32x100x100x2, .f32⟩
  | 58 => ⟨S16x32x100x100x2, .f32⟩
  | 59 => ⟨S16x32x100x100x1, .f32⟩
  | 60 => ⟨S16x32x100x100, .f32⟩
  | 61 => ⟨S16x32x100x100x1, .f32⟩
  | 62 => ⟨S16x32x100x100, .f32⟩
  | 63 => ⟨S16x32x100x100, .f32⟩
  | 64 => ⟨S16x32x100x100, .f32⟩
  | 65 => ⟨S16x32x100x100, .f32⟩
  | 66 => ⟨S16x32x100x100, .f32⟩
  | 67 => ⟨S16x32x100x100, .f32⟩
  | 68 => ⟨S16x32x100x100x2, .f32⟩
  | 69 => ⟨S16x32x1x1x2, .f32⟩
  | 70 => ⟨S16x32x100x100x2, .f32⟩
  | 71 => ⟨S16x32x100x100x2, .f32⟩
  | 72 => ⟨S16x32x100x100x2, .f32⟩
  | 73 => ⟨S16x32x1x1x2, .f32⟩
  | 74 => ⟨S16x32x100x100x2, .f32⟩
  | 75 => ⟨S16x32x100x100x2, .f32⟩
  | 76 => ⟨S16x32x100x100x2, .f32⟩
  | 77 => ⟨S_, .f32⟩
  | 78 => ⟨S16x32x100x100x2, .f32⟩
  | 79 => ⟨S16x32x100x100x2, .f32⟩
  | 80 => ⟨S16x32x100x100x1, .f32⟩
  | 81 => ⟨S16x32x100x100, .f32⟩
  | 82 => ⟨S16x32x100x100x1, .f32⟩
  | 83 => ⟨S16x32x100x100, .f32⟩
  | 84 => ⟨S16x32x100x100, .f32⟩
  | 85 => ⟨S16x32x100x100, .f32⟩
  | 86 => ⟨S16x32x100x100, .f32⟩
  | 87 => ⟨S16x32x100x100, .f32⟩
  | 88 => ⟨S16x32x10000, .f32⟩
  | 89 => ⟨S16x32x10000, .i32⟩
  | 90 => ⟨S_, .f32⟩
  | 91 => ⟨S_, .i32⟩
  | 92 => ⟨S16x32, .f32⟩
  | 93 => ⟨S16x32, .i32⟩
  | 94 => ⟨S_, .f32⟩
  | 95 => ⟨S16x32, .f32⟩
  | 96 => ⟨S_, .i32⟩
  | 97 => ⟨S_, .i32⟩
  | 98 => ⟨S16x32, .i32⟩
  | 99 => ⟨S16x32, .i32⟩
  | 100 => ⟨S16x32, .i32⟩
  | 101 => ⟨S_, .i32⟩
  | 102 => ⟨S16x32, .i32⟩
  | 103 => ⟨S16x32, .i1⟩
  | 104 => ⟨S16x32, .i32⟩
  | 105 => ⟨S16x32, .i32⟩
  | 106 => ⟨S_, .i32⟩
  | 107 => ⟨S16x32, .i32⟩
  | 108 => ⟨S16x32, .i1⟩
  | 109 => ⟨S16x32, .i1⟩
  | 110 => ⟨S_, .i32⟩
  | 111 => ⟨S16x32, .i32⟩
  | 112 => ⟨S16x32, .i32⟩
  | 113 => ⟨S16x32, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S16x32, .i32⟩
  | 121 => ⟨S16x32, .i32⟩
  | 122 => ⟨S_, .i32⟩
  | 123 => ⟨S16x32, .i32⟩
  | 124 => ⟨S16x32, .i1⟩
  | 125 => ⟨S_, .i32⟩
  | 126 => ⟨S16x32, .i32⟩
  | 127 => ⟨S16x32, .i1⟩
  | _ => ⟨S16x80x100x100x4, .f32⟩

abbrev hbmTy0_1 (i : Nat) : BufTy := match i % 128 with
  | 0 => ⟨S_, .i32⟩
  | 1 => ⟨S_, .i1⟩
  | 2 => ⟨S16x32, .i1⟩
  | 3 => ⟨S16x32, .i1⟩
  | 4 => ⟨S16x32, .i1⟩
  | 5 => ⟨S16x32, .i32⟩
  | 6 => ⟨S16x32, .i32⟩
  | 7 => ⟨S16x32, .i32⟩
  | 8 => ⟨S16x32x1, .i32⟩
  | 9 => ⟨S_, .i32⟩
  | 10 => ⟨S16x32x1, .i32⟩
  | 11 => ⟨S16x32x1, .i32⟩
  | 12 => ⟨S1x1x100, .i32⟩
  | 13 => ⟨S16x32x100, .i32⟩
  | 14 => ⟨S16x32x100, .i32⟩
  | 15 => ⟨S16x32x100, .i1⟩
  | 16 => ⟨S16x32x1, .i32⟩
  | 17 => ⟨S_, .i32⟩
  | 18 => ⟨S16x32x1, .i32⟩
  | 19 => ⟨S16x32x1, .i32⟩
  | 20 => ⟨S_, .i32⟩
  | 21 => ⟨S16x32x1, .i32⟩
  | 22 => ⟨S16x32x1, .i32⟩
  | 23 => ⟨S1x1x100, .i32⟩
  | 24 => ⟨S16x32x100, .i32⟩
  | 25 => ⟨S16x32x100, .i32⟩
  | 26 => ⟨S16x32x100, .i1⟩
  | 27 => ⟨S16x32x100, .i1⟩
  | 28 => ⟨S16x32x1, .i32⟩
  | 29 => ⟨S_, .i32⟩
  | 30 => ⟨S16x32x1, .i32⟩
  | 31 => ⟨S16x32x1, .i32⟩
  | 32 => ⟨S1x1x100, .i32⟩
  | 33 => ⟨S16x32x100, .i32⟩
  | 34 => ⟨S16x32x100, .i32⟩
  | 35 => ⟨S16x32x100, .i1⟩
  | 36 => ⟨S16x32x1, .i32⟩
  | 37 => ⟨S_, .i32⟩
  | 38 => ⟨S16x32x1, .i32⟩
  | 39 => ⟨S16x32x1, .i32⟩
  | 40 => ⟨S_, .i32⟩
  | 41 => ⟨S16x32x1, .i32⟩
  | 42 => ⟨S16x32x1, .i32⟩
  | 43 => ⟨S1x1x100, .i32⟩
  | 44 => ⟨S16x32x100, .i32⟩
  | 45 => ⟨S16x32x100, .i32⟩
  | 46 => ⟨S16x32x100, .i1⟩
  | 47 => ⟨S16x32x100, .i1⟩
  | 48 => ⟨S16x32x100x1, .i1⟩
  | 49 => ⟨S16x32x1x100, .i1⟩
  | 50 => ⟨S16x32x100x100, .i1⟩
  | 51 => ⟨S16x32x100x100, .i1⟩
  | 52 => ⟨S16x32x100x100, .i1⟩
  | 53 => ⟨S16x32x100x100, .f32⟩
  | 54 => ⟨S_, .f32⟩
  | 55 => ⟨S16x32, .f32⟩
  | 56 => ⟨S16x32, .i1⟩
  | 57 => ⟨S16x32, .f32⟩
  | 58 => ⟨S16x32x100x100x4, .f32⟩
  | 59 => ⟨S16x32x100x100x4, .f32⟩
  | 60 => ⟨S16x32x100x100x4, .f32⟩
  | 61 => ⟨S_, .f32⟩
  | 62 => ⟨S16x32x100x100, .f32⟩
  | 63 => ⟨S_, .f32⟩
  | 64 => ⟨S16x32x100x100, .f32⟩
  | 65 => ⟨S16x32x100x100, .f32⟩
  | 66 => ⟨S16x32x100x100, .f32⟩
  | 67 => ⟨S_, .f32⟩
  | 68 => ⟨S16x32, .f32⟩
  | 69 => ⟨S16x32, .f32⟩
  | 70 => ⟨S_, .f32⟩
  | 71 => ⟨S16x32x100x100, .f32⟩
  | 72 => ⟨S16x32x100x100, .f32⟩
  | 73 => ⟨S16x32x100x100, .f32⟩
  | 74 => ⟨S_, .f32⟩
  | 75 => ⟨S16x32, .f32⟩
  | 76 => ⟨S16x32, .f32⟩
  | 77 => ⟨S_, .f32⟩
  | 78 => ⟨S16x32, .f32⟩
  | 79 => ⟨S16x32, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | _ => ⟨S16x80x100x100x4, .f32⟩

abbrev hbmTy (i : Nat) : BufTy := match i / 128 with
  | 0 => hbmTy0_0 i
  | 1 => hbmTy0_1 i
  | _ => ⟨S16x80x100x100x4, .f32⟩

abbrev bufTy : (tb : Table) → Fin (tcTables nBuf tb) → BufTy
  | .hbm, ⟨i, _⟩ => hbmTy i
  | _, _ => ⟨S16x80x100x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_3 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_call0_v0 : Ref sig .tc := ⟨.hbm, 89, rfl⟩
abbrev main_call0_cst : Ref sig .tc := ⟨.hbm, 90, rfl⟩
abbrev main_call0_c : Ref sig .tc := ⟨.hbm, 91, rfl⟩
abbrev main_call0_v1_0 : Ref sig .tc := ⟨.hbm, 92, rfl⟩
abbrev main_v80 : Ref sig .tc := ⟨.hbm, 93, rfl⟩
abbrev main_cst_4 : Ref sig .tc := ⟨.hbm, 94, rfl⟩
abbrev main_v81 : Ref sig .tc := ⟨.hbm, 95, rfl⟩
abbrev main_c_5 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_c : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_c_0 : Ref sig .tc := ⟨.hbm, 110, rfl⟩
abbrev main_call1_v12 : Ref sig .tc := ⟨.hbm, 111, rfl⟩
abbrev main_call1_v13 : Ref sig .tc := ⟨.hbm, 112, rfl⟩
abbrev main_v82 : Ref sig .tc := ⟨.hbm, 113, rfl⟩
abbrev main_c_6 : Ref sig .tc := ⟨.hbm, 114, rfl⟩
abbrev main_call2_v0 : Ref sig .tc := ⟨.hbm, 115, rfl⟩
abbrev main_call2_c : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_c_1 : Ref sig .tc := ⟨.hbm, 122, rfl⟩
abbrev main_call2_v5 : Ref sig .tc := ⟨.hbm, 123, rfl⟩
abbrev main_call2_v6 : Ref sig .tc := ⟨.hbm, 124, rfl⟩
abbrev main_call2_c_2 : Ref sig .tc := ⟨.hbm, 125, rfl⟩
abbrev main_call2_v7 : Ref sig .tc := ⟨.hbm, 126, rfl⟩
abbrev main_call2_v8 : Ref sig .tc := ⟨.hbm, 127, rfl⟩
abbrev main_call2_c_3 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_v83 : Ref sig .tc := ⟨.hbm, 135, rfl⟩
abbrev main_v84 : Ref sig .tc := ⟨.hbm, 136, rfl⟩
abbrev main_c_7 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_c_8 : Ref sig .tc := ⟨.hbm, 145, rfl⟩
abbrev main_v92 : Ref sig .tc := ⟨.hbm, 146, rfl⟩
abbrev main_v93 : Ref sig .tc := ⟨.hbm, 147, rfl⟩
abbrev main_c_9 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_c_10 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_c_11 : Ref sig .tc := ⟨.hbm, 165, rfl⟩
abbrev main_v109 : Ref sig .tc := ⟨.hbm, 166, rfl⟩
abbrev main_v110 : Ref sig .tc := ⟨.hbm, 167, rfl⟩
abbrev main_c_12 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_13 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_14 : Ref sig .tc := ⟨.hbm, 189, rfl⟩
abbrev main_v130 : Ref sig .tc := ⟨.hbm, 190, rfl⟩
abbrev main_cst_15 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_16 : Ref sig .tc := ⟨.hbm, 195, rfl⟩
abbrev main_v134 : Ref sig .tc := ⟨.hbm, 196, rfl⟩
abbrev main_v135 : Ref sig .tc := ⟨.hbm, 197, rfl⟩
abbrev main_cst_17 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_18 : Ref sig .tc := ⟨.hbm, 202, rfl⟩
abbrev main_v139 : Ref sig .tc := ⟨.hbm, 203, rfl⟩
abbrev main_v140 : Ref sig .tc := ⟨.hbm, 204, rfl⟩
abbrev main_cst_19 : Ref sig .tc := ⟨.hbm, 205, rfl⟩
abbrev main_v141 : Ref sig .tc := ⟨.hbm, 206, rfl⟩
abbrev main_v142 : Ref sig .tc := ⟨.hbm, 207, rfl⟩
abbrev main_cst_20 : Ref sig .tc := ⟨.hbm, 208, rfl⟩
abbrev main_v143 : Ref sig .tc := ⟨.hbm, 209, rfl⟩
abbrev main_cst_21 : Ref sig .tc := ⟨.hbm, 210, rfl⟩
abbrev main_v144 : Ref sig .tc := ⟨.hbm, 211, rfl⟩
abbrev main_cst_22 : Ref sig .tc := ⟨.hbm, 212, rfl⟩
abbrev main_v145 : Ref sig .tc := ⟨.hbm, 213, rfl⟩
abbrev main_v146 : Ref sig .tc := ⟨.hbm, 214, rfl⟩
abbrev main_cst_23 : Ref sig .tc := ⟨.hbm, 215, rfl⟩
abbrev main_v147 : Ref sig .tc := ⟨.hbm, 216, rfl⟩
abbrev main_v148 : Ref sig .tc := ⟨.hbm, 217, rfl⟩
abbrev main_cst_24 : Ref sig .tc := ⟨.hbm, 218, rfl⟩
abbrev main_v149 : Ref sig .tc := ⟨.hbm, 219, rfl⟩
abbrev main_cst_25 : Ref sig .tc := ⟨.hbm, 220, rfl⟩
abbrev main_v150 : Ref sig .tc := ⟨.hbm, 221, rfl⟩
abbrev main_v151 : Ref sig .tc := ⟨.hbm, 222, rfl⟩

abbrev nD : Nat := 1
abbrev τ : Topo := Topo.v7x

variable {F : FTy → Type} [FloatOps F]
-- ==== Proof.RegionKernelIdeal.lean ====
/- The launch of the pipelined region of `KernelIdeal`: what each grid point leaves in the output's staging buffer, the proof
   data of the pipeline, the body's triple at a point, and the run of the whole program with its frame. The pieces the body
   stores come from the run of one grid point (`Gen.kernelRun0_A`); the thirty-two windows on the prediction array each
   hold a share of it. -/
module

public import proofs.«01_k».proof.Proof.Gen.KernelIdeal.Frame.RunA
public import Idealize.ShloMosaic.Lib.Claim

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point stores -/

/-- The pieces the body stores to the output's staging buffer at point `t`. -/
def pieces (hO : Ok m) (c : Dev nD) (t : Fin (cfgM m hO).N) :=
  (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t)
    scM0_0 (Memref.isWhole_whole _)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0)).1

/-- Every cell of the output's block lies in a stored piece. -/
theorem pieces_cover (hO : Ok m) (c : Dev nD) (t : Fin (cfgM m hO).N) (y : S1x32x128.Idx) :
    ∃ pc ∈ pieces m hO c t, y ∈ pc.1.set :=
  View.cover_of_tiledL (pieces m hO c t) S1x32x128.size (by unfold pieces; sl_kernel_rfl) y

/-- The output's block after the body at point `t`. -/
def outAt (hO : Ok m) (c : Dev nD) (t : Fin (cfgM m hO).N) : Vec F S1x32x128 .f32 :=
  VO0_33.read (Elt F) (VO0_33.writes (Elt F) VO0_33.junk (pieces m hO c t))

/-! ## The proof data -/

/-- Arrays at their contents on entry to the region; inputs keep their blocks, the output takes `outAt`; nothing is owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => outAt m hO c t
    | ⟨_ + 34, h⟩ => absurd h (Nat.not_lt.2 (Nat.le_add_left _ _))
  Φ _ := iprop(Pipeline.ΦA spec0 c ∗ Pipeline.ΦT pre0 (tbl m) c)
  q w := Pipeline.shareOf spec0 w
  owed _ := 0

/-- The arrays of the proof data are the contents on entry. -/
theorem dats_A (hO : Ok m) (c : Dev nD) (w : Fin (cfgM m hO).W) :
    (dats m hO 0 c).A w = V m c (Pipeline.arrRef spec0 w) := by
  dsimp only [dats]

/-- The output's block after point `t`. -/
theorem after_out (hO : Ok m) (c : Dev nD) (t : Fin (cfgM m hO).N) : (dats m hO 0 c).after 33 t = outAt m hO c t := by
  dsimp only [dats]
  try rfl

set_option maxHeartbeats 6400000 in
/-- What the body is given and returns at the input windows: their blocks, before and after. -/
theorem inputs_kept (hO : Ok m) (c : Dev nD) (t : Fin (cfgM m hO).N) :

    (∀ d, (dats m hO 0 c).before 0 t d = iblk m hO c 0 t) ∧ (dats m hO 0 c).after 0 t = iblk m hO c 0 t ∧
    (∀ d, (dats m hO 0 c).before 1 t d = iblk m hO c 1 t) ∧ (dats m hO 0 c).after 1 t = iblk m hO c 1 t ∧
    (∀ d, (dats m hO 0 c).before 2 t d = iblk m hO c 2 t) ∧ (dats m hO 0 c).after 2 t = iblk m hO c 2 t ∧
    (∀ d, (dats m hO 0 c).before 3 t d = iblk m hO c 3 t) ∧ (dats m hO 0 c).after 3 t = iblk m hO c 3 t ∧
    (∀ d, (dats m hO 0 c).before 4 t d = iblk m hO c 4 t) ∧ (dats m hO 0 c).after 4 t = iblk m hO c 4 t ∧
    (∀ d, (dats m hO 0 c).before 5 t d = iblk m hO c 5 t) ∧ (dats m hO 0 c).after 5 t = iblk m hO c 5 t ∧
    (∀ d, (dats m hO 0 c).before 6 t d = iblk m hO c 6 t) ∧ (dats m hO 0 c).after 6 t = iblk m hO c 6 t ∧
    (∀ d, (dats m hO 0 c).before 7 t d = iblk m hO c 7 t) ∧ (dats m hO 0 c).after 7 t = iblk m hO c 7 t ∧
    (∀ d, (dats m hO 0 c).before 8 t d = iblk m hO c 8 t) ∧ (dats m hO 0 c).after 8 t = iblk m hO c 8 t ∧
    (∀ d, (dats m hO 0 c).before 9 t d = iblk m hO c 9 t) ∧ (dats m hO 0 c).after 9 t = iblk m hO c 9 t ∧
    (∀ d, (dats m hO 0 c).before 10 t d = iblk m hO c 10 t) ∧ (dats m hO 0 c).after 10 t = iblk m hO c 10 t ∧
    (∀ d, (dats m hO 0 c).before 11 t d = iblk m hO c 11 t) ∧ (dats m hO 0 c).after 11 t = iblk m hO c 11 t ∧
    (∀ d, (dats m hO 0 c).before 12 t d = iblk m hO c 12 t) ∧ (dats m hO 0 c).after 12 t = iblk m hO c 12 t ∧
    (∀ d, (dats m hO 0 c).before 13 t d = iblk m hO c 13 t) ∧ (dats m hO 0 c).after 13 t = iblk m hO c 13 t ∧
    (∀ d, (dats m hO 0 c).before 14 t d = iblk m hO c 14 t) ∧ (dats m hO 0 c).after 14 t = iblk m hO c 14 t ∧
    (∀ d, (dats m hO 0 c).before 15 t d = iblk m hO c 15 t) ∧ (dats m hO 0 c).after 15 t = iblk m hO c 15 t ∧
    (∀ d, (dats m hO 0 c).before 16 t d = iblk m hO c 16 t) ∧ (dats m hO 0 c).after 16 t = iblk m hO c 16 t ∧
    (∀ d, (dats m hO 0 c).before 17 t d = iblk m hO c 17 t) ∧ (dats m hO 0 c).after 17 t = iblk m hO c 17 t ∧
    (∀ d, (dats m hO 0 c).before 18 t d = iblk m hO c 18 t) ∧ (dats m hO 0 c).after 18 t = iblk m hO c 18 t ∧
    (∀ d, (dats m hO 0 c).before 19 t d = iblk m hO c 19 t) ∧ (dats m hO 0 c).after 19 t = iblk m hO c 19 t ∧
    (∀ d, (dats m hO 0 c).before 20 t d = iblk m hO c 20 t) ∧ (dats m hO 0 c).after 20 t = iblk m hO c 20 t ∧
    (∀ d, (dats m hO 0 c).before 21 t d = iblk m hO c 21 t) ∧ (dats m hO 0 c).after 21 t = iblk m hO c 21 t ∧
    (∀ d, (dats m hO 0 c).before 22 t d = iblk m hO c 22 t) ∧ (dats m hO 0 c).after 22 t = iblk m hO c 22 t ∧
    (∀ d, (dats m hO 0 c).before 23 t d = iblk m hO c 23 t) ∧ (dats m hO 0 c).after 23 t = iblk m hO c 23 t ∧
    (∀ d, (dats m hO 0 c).before 24 t d = iblk m hO c 24 t) ∧ (dats m hO 0 c).after 24 t = iblk m hO c 24 t ∧
    (∀ d, (dats m hO 0 c).before 25 t d = iblk m hO c 25 t) ∧ (dats m hO 0 c).after 25 t = iblk m hO c 25 t ∧
    (∀ d, (dats m hO 0 c).before 26 t d = iblk m hO c 26 t) ∧ (dats m hO 0 c).after 26 t = iblk m hO c 26 t ∧
    (∀ d, (dats m hO 0 c).before 27 t d = iblk m hO c 27 t) ∧ (dats m hO 0 c).after 27 t = iblk m hO c 27 t ∧
    (∀ d, (dats m hO 0 c).before 28 t d = iblk m hO c 28 t) ∧ (dats m hO 0 c).after 28 t = iblk m hO c 28 t ∧
    (∀ d, (dats m hO 0 c).before 29 t d = iblk m hO c 29 t) ∧ (dats m hO 0 c).after 29 t = iblk m hO c 29 t ∧
    (∀ d, (dats m hO 0 c).before 30 t d = iblk m hO c 30 t) ∧ (dats m hO 0 c).after 30 t = iblk m hO c 30 t ∧
    (∀ d, (dats m hO 0 c).before 31 t d = iblk m hO c 31 t) ∧ (dats m hO 0 c).after 31 t = iblk m hO c 31 t ∧
    (∀ d, (dats m hO 0 c).before 32 t d = iblk m hO c 32 t) ∧ (dats m hO 0 c).after 32 t = iblk m hO c 32 t :=
  ⟨fun d => before0_0_of m hO (dats m hO 0 c) (dats_A m hO c 0) (fun _ => by (dsimp only [dats]; try rfl)) t d, by (dsimp only [dats]; try rfl), fun d => before0_1_of m hO (dats m hO 0 c) (dats_A m hO c 1) (fun _ => by (dsimp only [dats]; try rfl)) t d, by (dsimp only [dats]; try rfl), fun d => before0_2_of m hO (dats m hO 0 c) (dats_A m hO c 2) (fun _ => by (dsimp only [dats]; try rfl)) t d, by (dsimp only [dats]; try rfl), fun d => before0_3_of m hO (dats m hO 0 c) (dats_A m hO c 3) (fun _ => by (dsimp only [dats]; try rfl)) t d, by (dsimp only [dats]; try rfl), fun d => before0_4_of m hO (dats m hO 0 c) (dats_A m hO c 4) (fun _ => by (dsimp only [dats]; try rfl)) t d, by (dsimp only [dats]; try rfl), fun d => before0_5_of m hO (dats m hO 0 c) (dats_A m hO c 5) (fun _ => by (dsimp only [dats]; try rfl)) t d, by (dsimp only [dats]; try rfl), fun d => before0_6_of m hO (dats m hO 0 c) (dats_A m hO c 6) (fun _ => by (dsimp only [dats]; try rfl)) t d, by (dsimp only [dats]; try rfl), fun d => before0_7_of m hO (dats m hO 0 c) (dats_A m hO c 7) (fun _ => by (dsimp only [dats]; try rfl)) t d, by (dsimp only [dats]; try rfl), fun d => before0_8_of m hO (dats m hO 0 c) (dats_A m hO c 8) (fun _ => by (dsimp only [dats]; try rfl)) t d, by (dsimp only [dats]; try rfl), fun d => before0_9_of m hO (dats m hO 0 c) (dats_A m hO c 9) (fun _ => by (dsimp only [dats]; try rfl)) t d, by (dsimp only [dats]; try rfl), fun d => before0_10_of m hO (dats m hO 0 c) (dats_A m hO c 10) (fun _ => by (dsimp only [dats]; try rfl)) t d, by (dsimp only [dats]; try rfl), fun d => before0_11_of m hO (dats m hO 0 c) (dats_A m hO c 11) (fun _ => by (dsimp only [dats]; try rfl)) t d, by (dsimp only [dats]; try rfl), fun d => before0_12_of m hO (dats m hO 0 c) (dats_A m hO c 12) (fun _ => by (dsimp only [dats]; try rfl)) t d, by (dsimp only [dats]; try rfl), fun d => before0_13_of m hO (dats m hO 0 c) (dats_A m hO c 13) (fun _ => by (dsimp only [dats]; try rfl)) t d, by (dsimp only [dats]; try rfl), fun d => before0_14_of m hO (dats m hO 0 c) (dats_A m hO c 14) (fun _ => by (dsimp only [dats]; try rfl)) t d, by (dsimp only [dats]; try rfl), fun d => before0_15_of m hO (dats m hO 0 c) (dats_A m hO c 15) (fun _ => by (dsimp only [dats]; try rfl)) t d, by (dsimp only [dats]; try rfl), fun d => before0_16_of m hO (dats m hO 0 c) (dats_A m hO c 16) (fun _ => by (dsimp only [dats]; try rfl)) t d, by (dsimp only [dats]; try rfl), fun d => before0_17_of m hO (dats m hO 0 c) (dats_A m hO c 17) (fun _ => by (dsimp only [dats]; try rfl)) t d, by (dsimp only [dats]; try rfl), fun d => before0_18_of m hO (dats m hO 0 c) (dats_A m hO c 18) (fun _ => by (dsimp only [dats]; try rfl)) t d, by (dsimp only [dats]; try rfl), fun d => before0_19_of m hO (dats m hO 0 c) (dats_A m hO c 19) (fun _ => by (dsimp only [dats]; try rfl)) t d, by (dsimp only [dats]; try rfl), fun d => before0_20_of m hO (dats m hO 0 c) (dats_A m hO c 20) (fun _ => by (dsimp only [dats]; try rfl)) t d, by (dsimp only [dats]; try rfl), fun d => before0_21_of m hO (dats m hO 0 c) (dats_A m hO c 21) (fun _ => by (dsimp only [dats]; try rfl)) t d, by (dsimp only [dats]; try rfl), fun d => before0_22_of m hO (dats m hO 0 c) (dats_A m hO c 22) (fun _ => by (dsimp only [dats]; try rfl)) t d, by (dsimp only [dats]; try rfl), fun d => before0_23_of m hO (dats m hO 0 c) (dats_A m hO c 23) (fun _ => by (dsimp only [dats]; try rfl)) t d, by (dsimp only [dats]; try rfl), fun d => before0_24_of m hO (dats m hO 0 c) (dats_A m hO c 24) (fun _ => by (dsimp only [dats]; try rfl)) t d, by (dsimp only [dats]; try rfl), fun d => before0_25_of m hO (dats m hO 0 c) (dats_A m hO c 25) (fun _ => by (dsimp only [dats]; try rfl)) t d, by (dsimp only [dats]; try rfl), fun d => before0_26_of m hO (dats m hO 0 c) (dats_A m hO c 26) (fun _ => by (dsimp only [dats]; try rfl)) t d, by (dsimp only [dats]; try rfl), fun d => before0_27_of m hO (dats m hO 0 c) (dats_A m hO c 27) (fun _ => by (dsimp only [dats]; try rfl)) t d, by (dsimp only [dats]; try rfl), fun d => before0_28_of m hO (dats m hO 0 c) (dats_A m hO c 28) (fun _ => by (dsimp only [dats]; try rfl)) t d, by (dsimp only [dats]; try rfl), fun d => before0_29_of m hO (dats m hO 0 c) (dats_A m hO c 29) (fun _ => by (dsimp only [dats]; try rfl)) t d, by (dsimp only [dats]; try rfl), fun d => before0_30_of m hO (dats m hO 0 c) (dats_A m hO c 30) (fun _ => by (dsimp only [dats]; try rfl)) t d, by (dsimp only [dats]; try rfl), fun d => before0_31_of m hO (dats m hO 0 c) (dats_A m hO c 31) (fun _ => by (dsimp only [dats]; try rfl)) t d, by (dsimp only [dats]; try rfl), fun d => before0_32_of m hO (dats m hO 0 c) (dats_A m hO c 32) (fun _ => by (dsimp only [dats]; try rfl)) t d, by (dsimp only [dats]; try rfl)⟩

/-! ## The body at a point -/

/-- What the body is given at point `t`. -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d)))

/-- What the body returns at point `t`. -/
def returned (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t))

set_option maxHeartbeats 6400000 in
/-- The body's triple at point `t`: the run of a grid point, its scratch taken from the invariant and given back. -/
theorem body_at (hO : Ok m) (c : Dev nD) (t : Fin (cfgM m hO).N) :
    given m hO c t ⊢ wp frame (wpE (defs₀ (F := F)) Variants.none c none) Set.univ (bodyAt0 (adm m hO) t) (fun _ => returned m hO c t) := by
  obtain ⟨b0, a0, b1, a1, b2, a2, b3, a3, b4, a4, b5, a5, b6, a6, b7, a7, b8, a8, b9, a9, b10, a10, b11, a11, b12, a12, b13, a13, b14, a14, b15, a15, b16, a16, b17, a17, b18, a18, b19, a19, b20, a20, b21, a21, b22, a22, b23, a23, b24, a24, b25, a25, b26, a26, b27, a27, b28, a28, b29, a29, b30, a30, b31, a31, b32, a32⟩ := inputs_kept m hO c t
  unfold given returned bodyAt0
  simp only [b0, b1, b2, b3, b4, b5, b6, b7, b8, b9, b10, b11, b12, b13, b14, b15, b16, b17, b18, b19, b20, b21, b22, b23, b24, b25, b26, b27, b28, b29, b30, b31, b32]
  rw [show (dats m hO 0 c).Φ t.succ = (dats m hO 0 c).Φ t.castSucc from rfl,
    show (dats m hO 0 c).owesAt () t.succ = (dats m hO 0 c).owesAt () t.castSucc from rfl,
    a0, a1, a2, a3, a4, a5, a6, a7, a8, a9, a10, a11, a12, a13, a14, a15, a16, a17, a18, a19, a20, a21, a22, a23, a24, a25, a26, a27, a28, a29, a30, a31, a32, after_out,
    show (dats m hO 0 c).Φ t.castSucc = iprop(Pipeline.ΦA spec0 c ∗ Pipeline.ΦT pre0 (tbl m) c) from rfl, PhiT0_eq, PhiA0_eq]
  unfold outAt
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexists _; iexact H33
  isplitl [HS0]; · iexact HS0
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, ⟨%e33, H33⟩, ⟨%fT0, HS0⟩, HT0⟩
  isplitl [HS0 Hg HT0]
  · isplitl [HS0 Hg]
    · isplitl [HS0]
      · iexists _; unfold owns; iexists _; isplitr
        swap; · iexact HS0
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  unfold owns; iexists _; isplitr
  swap; · iexact H33
  ipureintro; exact View.read_writes_of_cover _ _ _ _ _ (pieces_cover m hO c t)

/-- The body table's row at point `t` is the body there. -/
theorem row_at (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 6400000 in
/-- The pipeline's obligation for the body, at every point. -/
theorem obligation (hO : Ok m) (c : Dev nD) :
    BodyObligation (dats (F := F) m hO 0 c) (defs₀ (F := F)) Variants.none () Set.univ := fun t => by
  rw [bigSep_W0, bigSep_W0, row_at m hO]
  exact triple_restated (body_at m hO c t) rfl .rfl fun _ => .rfl

/-! ## The run -/

/-- The buffers once the lines after the region have run. -/
def final (hO : Ok m) := Pipeline.afterTail pcfgs (fun _ => adm m hO) (dats m hO) 0 (V0 m) [hostOps1]

set_option backward.isDefEq.respectTransparency.types false in
set_option maxHeartbeats 800000 in
/-- Every weakly fair execution terminates with the arrays as the pipeline leaves them, the other buffers as the lines after
    the region leave them, and every counter at zero. -/
theorem run_counts (hO : Ok m) : θ_run defs (onTc (τ := τ) (main (F := F))) (s₀ m ρ)
    (fun r => (Pipeline.FramePost (Pipeline.pin pcfgs fun _ => adm m hO) (dats m hO) 0 (final m hO)) r ∧ r.2.sem = fun _ => 0) :=
  Pipeline.θ_run_frameP_around_shared (Q' := _) pcfgs (fun _ => adm m hO) (dats m hO) (0 : Fin 1) launch₀0 defs₀ Variants.none m ρ main
    (hbody := fun c => (obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := dats_A m hO) (hpf := V_pre m) (hΦ := fun _ _ => rfl)

/-- The run without the counters. -/
theorem run (hO : Ok m) : θ_run defs (onTc (τ := τ) (main (F := F))) (s₀ m ρ)
    (Pipeline.FramePost (Pipeline.pin pcfgs fun _ => adm m hO) (dats m hO) 0 (final m hO)) :=
  (θ_run defs _ _).mono (fun _ h => h.1) (run_counts m ρ hO)

/-- The frame: the arguments end unchanged and every counter at zero. -/
theorem unchanged (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ hO (dats m hO) (dats_A m hO) (run m ρ hO)) ((θ_run defs _ _).mono (fun _ h => h.2) (run_counts m ρ hO))

end Cert.KernelIdeal.Region

end
-- ==== Proof.Words.lean ====
/- Facts of 32-bit words which both printings of the kernel use: the number of the image a box belongs to, as the index
   maps compute it, and what the predicate on the labels says of one label. -/
module

public import Idealize.ShloMosaic.PureOps
public import proofs.«01_k».proof.Proof.Gen.Pre_labels_in_range
public import proofs.«01_k».proof.Proof.Gen.Pre_predictions_ordered

@[expose] public section

noncomputable section

namespace Cert.Words

open Idealize.ShloMosaic

/-- The quotient of `w` by thirty-two, rounded down, as the index maps compute it. -/
def image (w : BitVec 32) : BitVec 32 :=
  Scalar.select
    (Scalar.andi
      (Scalar.cmpi .ne
        (Scalar.subi (Scalar.extui (Scalar.cmpi .sgt w 0#32) : BitVec 32) (Scalar.extui (Scalar.cmpi .slt w 0#32)))
        (Scalar.subi (Scalar.extui (Scalar.cmpi .sgt 32#32 0#32) : BitVec 32) (Scalar.extui (Scalar.cmpi .slt 32#32 0#32))))
      (Scalar.cmpi .ne (Scalar.remsi w 32#32) 0#32))
    (Scalar.subi (Scalar.divsi w 32#32) 1#32) (Scalar.divsi w 32#32)

/-- Box `k` of group `n` belongs to image `n`. -/
theorem image_eq : ∀ n : Fin 16, ∀ k : Fin 32,
    (image (Scalar.addi (Scalar.muli (BitVec.ofNat 32 n.val) 32#32) (BitVec.ofNat 32 k.val))).toNat = n.val := by
  decide +kernel

/-- A label which the predicate admits is below eighty. -/
theorem label_lt {F : FTy → Type} [FloatOps F] (x : FVec F Cert.Pre_labels_in_range.S16x80x100x100x4 .f32)
    (y : FVec F Cert.Pre_labels_in_range.S16x32x4 .f32) (l : IVec Cert.Pre_labels_in_range.S16x32 32)
    (h : Cert.Pre_labels_in_range.fn x y l = fun _ => 1#1) (i : Cert.Pre_labels_in_range.S16x32.Idx) : (l i).toNat < 80 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h i
  simp only [Pre_labels_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The labels of predictions in order are in range. -/
theorem labels_of_ordered {F : FTy → Type} [FloatOps F] (x : FVec F Cert.Pre_labels_in_range.S16x80x100x100x4 .f32)
    (y : FVec F Cert.Pre_labels_in_range.S16x32x4 .f32) (l : IVec Cert.Pre_labels_in_range.S16x32 32)
    (h : (Cert.Pre_predictions_ordered.fn x y l).1 = fun _ => 1#1) : Cert.Pre_labels_in_range.fn x y l = fun _ => 1#1 := h

end Cert.Words

end
-- ==== Proof.TableKernelIdeal.lean ====
/- The table of labels which steers the windows on the predictions: where each window's block lies, as a function of the
   table, and that the labels in range put every block inside the array. -/
module

public import proofs.«01_k».proof.Proof.Words
public import proofs.«01_k».proof.Proof.Gen.KernelIdeal.Frame.Runs
public import Idealize.ShloMosaic.Lib.Pipeline.ValueKit

@[expose] public section

set_option maxRecDepth 16384

noncomputable section

namespace Cert.KernelIdeal.Table

open Idealize.ShloMosaic Idealize.ShloMosaic.TcCoe Idealize.SL.Sem Idealize.SL.RA Idealize.ShloMosaic.Pipeline
open Cert.KernelIdeal Cert.KernelIdeal.Gen

variable {F : FTy → Type} [FloatOps F]

/-- The label the table holds for box `k` of the group of point `i`. -/
def label (pf : pre0.Contents (Elt F)) (i : grid0.Coords) (k : Fin 32) : BitVec 32 :=
  pf.at 0 (Rect.unit (s := S512) (k0_off1 i (BitVec.ofNat 32 k.val)) S1.size (k0_off1_inb i k)) numel1_S1

/-- Where the block of window `k` lies at point `i`, in blocks. -/
def place (pf : pre0.Contents (Elt F)) (i : grid0.Coords) (k : Fin 32) : Fin 4 → Nat :=
  ![(Words.image (Scalar.addi (Scalar.muli (BitVec.ofNat 32 (i 0).val) 32#32) (BitVec.ofNat 32 k.val))).toNat,
    (label pf i k).toNat, (0#32).toNat, (0#32).toNat]

/-- The image is the point's number. -/
theorem place_eq (pf : pre0.Contents (Elt F)) (i : grid0.Coords) (k : Fin 32) :
    place pf i k = ![(i 0).val, (label pf i k).toNat, 0, 0] := by
  unfold place
  rw [Words.image_eq (i 0) k]
  rfl

/-- The block of window `k` lies inside the array when every label of the table is below eighty. -/
theorem place_ok (pf : pre0.Contents (Elt F)) (h : ∀ y : S512.Idx, ((pf 0 y : BitVec 32)).toNat < 80) (k : Fin 32)
    (i : grid0.Coords) : ∃ h : (∀ a, (place pf i k a + 1) * S1x1x400x100.size a ≤ S16x80x400x100.size a),
      EltTy.bits .f32 = 32 ∨ (Rect.block (s := S16x80x400x100) S1x1x400x100.size (place pf i k) h).WholeWords (EltTy.packing .f32) := by
  refine ⟨fun a => ?_, .inl rfl⟩
  rw [place_eq]
  have hl : (label pf i k).toNat < 80 := h _
  have hi : (i 0).val < 16 := (i 0).isLt
  match a with
  | 0 => show ((i 0).val + 1) * 1 ≤ 16; omega
  | 1 => show ((label pf i k).toNat + 1) * 1 ≤ 80; omega
  | 2 => show (0 + 1) * 400 ≤ 400; omega
  | 3 => show (0 + 1) * 100 ≤ 100; omega

/-- So the side condition on the table holds. -/
theorem ok_of_lt (pf : pre0.Contents (Elt F)) (h : ∀ y : S512.Idx, ((pf 0 y : BitVec 32)).toNat < 80) : ok0 pf :=
  ⟨place_ok pf h 0, place_ok pf h 1, place_ok pf h 2, place_ok pf h 3, place_ok pf h 4, place_ok pf h 5, place_ok pf h 6, place_ok pf h 7, place_ok pf h 8, place_ok pf h 9, place_ok pf h 10, place_ok pf h 11, place_ok pf h 12, place_ok pf h 13, place_ok pf h 14, place_ok pf h 15, place_ok pf h 16, place_ok pf h 17, place_ok pf h 18, place_ok pf h 19, place_ok pf h 20, place_ok pf h 21, place_ok pf h 22, place_ok pf h 23, place_ok pf h 24, place_ok pf h 25, place_ok pf h 26, place_ok pf h 27, place_ok pf h 28, place_ok pf h 29, place_ok pf h 30, place_ok pf h 31⟩

/-- The table holds the labels, flattened. -/
theorem tbl_eq (m : (ℓ : Loc nD τ sig) → Buf (Elt F) ℓ) :
    (tbl m 0 : IVec S512 32) = shapeCast S512 (m (((0 : Dev nD) : Thread nD τ).loc main_arg2) : IVec S16x32 32) shapeCasts_S16x32_S512 := by
  show V m 0 main_v3 = _
  dsimp only [V, V0]
  simp only [hostOps0, List.flatten_cons, List.flatten_nil, List.append_nil, List.cons_append, List.nil_append]
  after_results
  rfl

/-- The labels in range satisfy the pipeline's side condition. -/
theorem ok_of_pre (m : (ℓ : Loc nD τ sig) → Buf (Elt F) ℓ)
    (h : ∀ c : Dev nD, Cert.Pre_labels_in_range.fn (F := F) (m ((c.tc : Thread nD τ).loc main_arg0)) (m ((c.tc : Thread nD τ).loc main_arg1))
      (m ((c.tc : Thread nD τ).loc main_arg2)) = fun _ => 1#1) : Ok m := by
  refine ok_of_lt (tbl m) fun y => ?_
  have e := congrFun (tbl_eq m) y
  rw [show (tbl m 0 y : BitVec 32) = _ from e]
  exact Words.label_lt _ _ _ (h 0) _

end Cert.KernelIdeal.Table

end
-- ==== Proof.RefOps.lean ====
/- The reference's host operations in order, cut where one stage of the computation ends and the next begins; its run as
   the fold of their results; and that a stage keeps every buffer it does not write. -/
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The image number and the label side by side. -/
def pair : (⟨S16x32x1, .i32⟩ : BufTy).Contents (Elt F) → (⟨S16x32x1, .i32⟩ : BufTy).Contents (Elt F) → (⟨S16x32x2, .i32⟩ : BufTy).Contents (Elt F) :=
  (fun a b => concatenate S16x32x2 2 [⟨S16x32x1, a⟩, ⟨S16x32x1, b⟩] concatenates_S16x32x1_S16x32x1_S16x32x2_d2)

/-- The operations of the choice of every box's class map. -/
abbrev opsGather : List (HloOp τ sig (Elt F)) :=
  [ nullary main_v0 (iotaInDim S100 32 0),
    nullary main_v1 (iotaInDim S100 32 0),
    nullary main_v2 (iotaInDim S16x32 32 0),
    nullary main_c (constantI S_ 32 0#32),
    unary main_c main_v3 (broadcastInDim S16x32 ![] bcast_S_S16x32 : (⟨S_, .i32⟩ : BufTy).Contents (Elt F) → (⟨S16x32, .i32⟩ : BufTy).Contents (Elt F)),
    binary main_v2 main_v3 main_v4 (cmpi .slt : (⟨S16x32, .i32⟩ : BufTy).Contents (Elt F) → (⟨S16x32, .i32⟩ : BufTy).Contents (Elt F) → (⟨S16x32, .i1⟩ : BufTy).Contents (Elt F)),
    nullary main_c_0 (constantI S_ 32 16#32),
    unary main_c_0 main_v5 (broadcastInDim S16x32 ![] bcast_S_S16x32 : (⟨S_, .i32⟩ : BufTy).Contents (Elt F) → (⟨S16x32, .i32⟩ : BufTy).Contents (Elt F)),
    binary main_v2 main_v5 main_v6 (addi : (⟨S16x32, .i32⟩ : BufTy).Contents (Elt F) → (⟨S16x32, .i32⟩ : BufTy).Contents (Elt F) → (⟨S16x32, .i32⟩ : BufTy).Contents (Elt F)),
    ternary main_v4 main_v6 main_v2 main_v7 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_1 (constantI S_ 32 0#32),
    unary main_c_1 main_v8 (broadcastInDim S16x32 ![] bcast_S_S16x32 : (⟨S_, .i32⟩ : BufTy).Contents (Elt F) → (⟨S16x32, .i32⟩ : BufTy).Contents (Elt F)),
    binary main_arg2 main_v8 main_v9 (cmpi .slt : (⟨S16x32, .i32⟩ : BufTy).Contents (Elt F) → (⟨S16x32, .i32⟩ : BufTy).Contents (Elt F) → (⟨S16x32, .i1⟩ : BufTy).Contents (Elt F)),
    nullary main_c_2 (constantI S_ 32 80#32),
    unary main_c_2 main_v10 (broadcastInDim S16x32 ![] bcast_S_S16x32 : (⟨S_, .i32⟩ : BufTy).Contents (Elt F) → (⟨S16x32, .i32⟩ : BufTy).Contents (Elt F)),
    binary main_arg2 main_v10 main_v11 (addi : (⟨S16x32, .i32⟩ : BufTy).Contents (Elt F) → (⟨S16x32, .i32⟩ : BufTy).Contents (Elt F) → (⟨S16x32, .i32⟩ : BufTy).Contents (Elt F)),
    ternary main_v9 main_v11 main_arg2 main_v12 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v7 main_v13 (broadcastInDim S16x32x1 ![0, 1] bcast_S16x32_S16x32x1_0_1 : (⟨S16x32, .i32⟩ : BufTy).Contents (Elt F) → (⟨S16x32x1, .i32⟩ : BufTy).Contents (Elt F)),
    unary main_v12 main_v14 (broadcastInDim S16x32x1 ![0, 1] bcast_S16x32_S16x32x1_0_1 : (⟨S16x32, .i32⟩ : BufTy).Contents (Elt F) → (⟨S16x32x1, .i32⟩ : BufTy).Contents (Elt F)),
    binary main_v13 main_v14 main_v15 (pair (F := F)),
    binary main_arg0 main_v15 main_v16 ((fun x i => Host.gather gather_S16x80x100x100x4_S16x32x2_S16x32x100x100x4_234_01_n_n_01_2_111001004 x i) : (⟨S16x80x100x100x4, .f32⟩ : BufTy).Contents (Elt F) → (⟨S16x32x2, .i32⟩ : BufTy).Contents (Elt F) → (⟨S16x32x100x100x4, .f32⟩ : BufTy).Contents (Elt F)),
    unary main_arg1 main_v17 (broadcastInDim S16x32x1x1x4 ![0, 1, 4] bcast_S16x32x4_S16x32x1x1x4_0_1_4 : (⟨S16x32x4, .f32⟩ : BufTy).Contents (Elt F) → (⟨S16x32x1x1x4, .f32⟩ : BufTy).Contents (Elt F)) ]

/-- The operations of the overlaps, first half. -/
abbrev opsGiou1 : List (HloOp τ sig (Elt F)) :=
  [ unary main_v16 main_v18 ((extractStridedSlice S16x32x100x100x1 ![0, 0, 0, 0, 2] · slices_S16x32x100x100x4_S16x32x100x100x1_0_0_0_0_2) : (⟨S16x32x100x100x4, .f32⟩ : BufTy).Contents (Elt F) → (⟨S16x32x100x100x1, .f32⟩ : BufTy).Contents (Elt F)),
    reshape main_v18 main_v19 (rfl : (.f32 : EltTy) = .f32) shapeCasts_S16x32x100x100x1_S16x32x100x100,
    unary main_v16 main_v20 ((extractStridedSlice S16x32x100x100x1 ![0, 0, 0, 0, 0] · slices_S16x32x100x100x4_S16x32x100x100x1_0_0_0_0_0) : (⟨S16x32x100x100x4, .f32⟩ : BufTy).Contents (Elt F) → (⟨S16x32x100x100x1, .f32⟩ : BufTy).Contents (Elt F)),
    reshape main_v20 main_v21 (rfl : (.f32 : EltTy) = .f32) shapeCasts_S16x32x100x100x1_S16x32x100x100,
    binary main_v19 main_v21 main_v22 (subf : (⟨S16x32x100x100, .f32⟩ : BufTy).Contents (Elt F) → (⟨S16x32x100x100, .f32⟩ : BufTy).Contents (Elt F) → (⟨S16x32x100x100, .f32⟩ : BufTy).Contents (Elt F)),
    unary main_v16 main_v23 ((extractStridedSlice S16x32x100x100x1 ![0, 0, 0, 0, 3] · slices_S16x32x100x100x4_S16x32x100x100x1_0_0_0_0_3) : (⟨S16x32x100x100x4, .f32⟩ : BufTy).Contents (Elt F) → (⟨S16x32x100x100x1, .f32⟩ : BufTy).Contents (Elt F)),
    reshape main_v23 main_v24 (rfl : (.f32 : EltTy) = .f32) shapeCasts_S16x32x100x100x1_S16x32x100x100,
    unary main_v16 main_v25 ((extractStridedSlice S16x32x100x100x1 ![0, 0, 0, 0, 1] · slices_S16x32x100x100x4_S16x32x100x100x1_0_0_0_0_1) : (⟨S16x32x100x100x4, .f32⟩ : BufTy).Contents (Elt F) → (⟨S16x32x100x100x1, .f32⟩ : BufTy).Contents (Elt F)),
    reshape main_v25 main_v26 (rfl : (.f32 : EltTy) = .f32) shapeCasts_S16x32x100x100x1_S16x32x100x100,
    binary main_v24 main_v26 main_v27 (subf : (⟨S16x32x100x100, .f32⟩ : BufTy).Contents (Elt F) → (⟨S16x32x100x100, .f32⟩ : BufTy).Contents (Elt F) → (⟨S16x32x100x100, .f32⟩ : BufTy).Contents (Elt F)),
    binary main_v22 main_v27 main_v28 (mulf : (⟨S16x32x100x100, .f32⟩ : BufTy).Contents (Elt F) → (⟨S16x32x100x100, .f32⟩ : BufTy).Contents (Elt F) → (⟨S16x32x100x100, .f32⟩ : BufTy).Contents (Elt F)),
    unary main_v17 main_v29 ((extractStridedSlice S16x32x1x1x1 ![0, 0, 0, 0, 2] · slices_S16x32x1x1x4_S16x32x1x1x1_0_0_0_0_2) : (⟨S16x32x1x1x4, .f32⟩ : BufTy).Contents (Elt F) → (⟨S16x32x1x1x1, .f32⟩ : BufTy).Contents (Elt F)),
    reshape main_v29 main_v30 (rfl : (.f32 : EltTy) = .f32) shapeCasts_S16x32x1x1x1_S16x32x1x1,
    unary main_v17 main_v31 ((extractStridedSlice S16x32x1x1x1 ![0, 0, 0, 0, 0] · slices_S16x32x1x1x4_S16x32x1x1x1_0_0_0_0_0) : (⟨S16x32x1x1x4, .f32⟩ : BufTy).Contents (Elt F) → (⟨S16x32x1x1x1, .f32⟩ : BufTy).Contents (Elt F)),
    reshape main_v31 main_v32 (rfl : (.f32 : EltTy) = .f32) shapeCasts_S16x32x1x1x1_S16x32x1x1,
    binary main_v30 main_v32 main_v33 (subf : (⟨S16x32x1x1, .f32⟩ : BufTy).Contents (Elt F) → (⟨S16x32x1x1, .f32⟩ : BufTy).Contents (Elt F) → (⟨S16x32x1x1, .f32⟩ : BufTy).Contents (Elt F)),
    unary main_v17 main_v34 ((extractStridedSlice S16x32x1x1x1 ![0, 0, 0, 0, 3] · slices_S16x32x1x1x4_S16x32x1x1x1_0_0_0_0_3) : (⟨S16x32x1x1x4, .f32⟩ : BufTy).Contents (Elt F) → (⟨S16x32x1x1x1, .f32⟩ : BufTy).Contents (Elt F)),
    reshape main_v34 main_v35 (rfl : (.f32 : EltTy) = .f32) shapeCasts_S16x32x1x1x1_S16x32x1x1,
    unary main_v17 main_v36 ((extractStridedSlice S16x32x1x1x1 ![0, 0, 0, 0, 1] · slices_S16x32x1x1x4_S16x32x1x1x1_0_0_0_0_1) : (⟨S16x32x1x1x4, .f32⟩ : BufTy).Contents (Elt F) → (⟨S16x32x1x1x1, .f32⟩ : BufTy).Contents (Elt F)),
    reshape main_v36 main_v37 (rfl : (.f32 : EltTy) = .f32) shapeCasts_S16x32x1x1x1_S16x32x1x1,
    binary main_v35 main_v37 main_v38 (subf : (⟨S16x32x1x1, .f32⟩ : BufTy).Contents (Elt F) → (⟨S16x32x1x1, .f32⟩ : BufTy).Contents (Elt F) → (⟨S16x32x1x1, .f32⟩ : BufTy).Contents (Elt F)),
    binary main_v33 main_v38 main_v39 (mulf : (⟨S16x32x1x1, .f32⟩ : BufTy).Contents (Elt F) → (⟨S16x32x1x1, .f32⟩ : BufTy).Contents (Elt F) → (⟨S16x32x1x1, .f32⟩ : BufTy).Contents (Elt F)),
    unary main_v16 main_v40 ((extractStridedSlice S16x32x100x100x2 ![0, 0, 0, 0, 0] · slices_S16x32x100x100x4_S16x32x100x100x2_0_0_0_0_0) : (⟨S16x32x100x100x4, .f32⟩ : BufTy).Contents (Elt F) → (⟨S16x32x100x100x2, .f32⟩ : BufTy).Contents (Elt F)),
    unary main_v17 main_v41 ((extractStridedSlice S16x32x1x1x2 ![0, 0, 0, 0, 0] · slices_S16x32x1x1x4_S16x32x1x1x2_0_0_0_0_0) : (⟨S16x32x1x1x4, .f32⟩ : BufTy).Contents (Elt F) → (⟨S16x32x1x1x2, .f32⟩ : BufTy).Contents (Elt F)),
    unary main_v41 main_v42 (broadcastInDim S16x32x100x100x2 ![0, 1, 2, 3, 4] bcast_S16x32x1x1x2_S16x32x100x100x2_0_1_2_3_4 : (⟨S16x32x1x1x2, .f32⟩ : BufTy).Contents (Elt F) → (⟨S16x32x100x100x2, .f32⟩ : BufTy).Contents (Elt F)),
    binary main_v40 main_v42 main_v43 (maximumf : (⟨S16x32x100x100x2, .f32⟩ : BufTy).Contents (Elt F) → (⟨S16x32x100x100x2, .f32⟩ : BufTy).Contents (Elt F) → (⟨S16x32x100x100x2, .f32⟩ : BufTy).Contents (Elt F)),
    unary main_v16 main_v44 ((extractStridedSlice S16x32x100x100x2 ![0, 0, 0, 0, 2] · slices_S16x32x100x100x4_S16x32x100x100x2_0_0_0_0_2) : (⟨S16x32x100x100x4, .f32⟩ : BufTy).Contents (Elt F) → (⟨S16x32x100x100x2, .f32⟩ : BufTy).Contents (Elt F)),
    unary main_v17 main_v45 ((extractStridedSlice S16x32x1x1x2 ![0, 0, 0, 0, 2] · slices_S16x32x1x1x4_S16x32x1x1x2_0_0_0_0_2) : (⟨S16x32x1x1x4, .f32⟩ : BufTy).Contents (Elt F) → (⟨S16x32x1x1x2, .f32⟩ : BufTy).Contents (Elt F)),
    unary main_v45 main_v46 (broadcastInDim S16x32x100x100x2 ![0, 1, 2, 3, 4] bcast_S16x32x1x1x2_S16x32x100x100x2_0_1_2_3_4 : (⟨S16x32x1x1x2, .f32⟩ : BufTy).Contents (Elt F) → (⟨S16x32x100x100x2, .f32⟩ : BufTy).Contents (Elt F)),
    binary main_v44 main_v46 main_v47 (minimumf : (⟨S16x32x100x100x2, .f32⟩ : BufTy).Contents (Elt F) → (⟨S16x32x100x100x2, .f32⟩ : BufTy).Contents (Elt F) → (⟨S16x32x100x100x2, .f32⟩ : BufTy).Contents (Elt F)),
    binary main_v47 main_v43 main_v48 (subf : (⟨S16x32x100x100x2, .f32⟩ : BufTy).Contents (Elt F) → (⟨S16x32x100x100x2, .f32⟩ : BufTy).Contents (Elt F) → (⟨S16x32x100x100x2, .f32⟩ : BufTy).Contents (Elt F)),
    nullary main_cst (constant S_ .f32 0x00000000#32),
    unary main_cst main_v49 (broadcastInDim S16x32x100x100x2 ![] bcast_S_S16x32x100x100x2 : (⟨S_, .f32⟩ : BufTy).Contents (Elt F) → (⟨S16x32x100x100x2, .f32⟩ : BufTy).Contents (Elt F)),
    binary main_v48 main_v49 main_v50 (maximumf : (⟨S16x32x100x100x2, .f32⟩ : BufTy).Contents (Elt F) → (⟨S16x32x100x100x2, .f32⟩ : BufTy).Contents (Elt F) → (⟨S16x32x100x100x2, .f32⟩ : BufTy).Contents (Elt F)),
    unary main_v50 main_v51 ((extractStridedSlice S16x32x100x100x1 ![0, 0, 0, 0, 0] · slices_S16x32x100x100x2_S16x32x100x100x1_0_0_0_0_0) : (⟨S16x32x100x100x2, .f32⟩ : BufTy).Contents (Elt F) → (⟨S16x32x100x100x1, .f32⟩ : BufTy).Contents (Elt F)),
    reshape main_v51 main_v52 (rfl : (.f32 : EltTy) = .f32) shapeCasts_S16x32x100x100x1_S16x32x100x100,
    unary main_v50 main_v53 ((extractStridedSlice S16x32x100x100x1 ![0, 0, 0, 0, 1] · slices_S16x32x100x100x2_S16x32x100x100x1_0_0_0_0_1) : (⟨S16x32x100x100x2, .f32⟩ : BufTy).Contents (Elt F) → (⟨S16x32x100x100x1, .f32⟩ : BufTy).Contents (Elt F)),
    reshape main_v53 main_v54 (rfl : (.f32 : EltTy) = .f32) shapeCasts_S16x32x100x100x1_S16x32x100x100 ]

/-- The operations of the overlaps, second half. -/
abbrev opsGiou2 : List (HloOp τ sig (Elt F)) :=
  [ binary main_v52 main_v54 main_v55 (mulf : (⟨S16x32x100x100, .f32⟩ : BufTy).Contents (Elt F) → (⟨S16x32x100x100, .f32⟩ : BufTy).Contents (Elt F) → (⟨S16x32x100x100, .f32⟩ : BufTy).Contents (Elt F)),
    unary main_v39 main_v56 (broadcastInDim S16x32x100x100 ![0, 1, 2, 3] bcast_S16x32x1x1_S16x32x100x100_0_1_2_3 : (⟨S16x32x1x1, .f32⟩ : BufTy).Contents (Elt F) → (⟨S16x32x100x100, .f32⟩ : BufTy).Contents (Elt F)),
    binary main_v28 main_v56 main_v57 (addf : (⟨S16x32x100x100, .f32⟩ : BufTy).Contents (Elt F) → (⟨S16x32x100x100, .f32⟩ : BufTy).Contents (Elt F) → (⟨S16x32x100x100, .f32⟩ : BufTy).Contents (Elt F)),
    binary main_v57 main_v55 main_v58 (subf : (⟨S16x32x100x100, .f32⟩ : BufTy).Contents (Elt F) → (⟨S16x32x100x100, .f32⟩ : BufTy).Contents (Elt F) → (⟨S16x32x100x100, .f32⟩ : BufTy).Contents (Elt F)),
    binary main_v55 main_v58 main_v59 (Host.divf : (⟨S16x32x100x100, .f32⟩ : BufTy).Contents (Elt F) → (⟨S16x32x100x100, .f32⟩ : BufTy).Contents (Elt F) → (⟨S16x32x100x100, .f32⟩ : BufTy).Contents (Elt F)),
    unary main_v16 main_v60 ((extractStridedSlice S16x32x100x100x2 ![0, 0, 0, 0, 0] · slices_S16x32x100x100x4_S16x32x100x100x2_0_0_0_0_0) : (⟨S16x32x100x100x4, .f32⟩ : BufTy).Contents (Elt F) → (⟨S16x32x100x100x2, .f32⟩ : BufTy).Contents (Elt F)),
    unary main_v17 main_v61 ((extractStridedSlice S16x32x1x1x2 ![0, 0, 0, 0, 0] · slices_S16x32x1x1x4_S16x32x1x1x2_0_0_0_0_0) : (⟨S16x32x1x1x4, .f32⟩ : BufTy).Contents (Elt F) → (⟨S16x32x1x1x2, .f32⟩ : BufTy).Contents (Elt F)),
    unary main_v61 main_v62 (broadcastInDim S16x32x100x100x2 ![0, 1, 2, 3, 4] bcast_S16x32x1x1x2_S16x32x100x100x2_0_1_2_3_4 : (⟨S16x32x1x1x2, .f32⟩ : BufTy).Contents (Elt F) → (⟨S16x32x100x100x2, .f32⟩ : BufTy).Contents (Elt F)),
    binary main_v60 main_v62 main_v63 (minimumf : (⟨S16x32x100x100x2, .f32⟩ : BufTy).Contents (Elt F) → (⟨S16x32x100x100x2, .f32⟩ : BufTy).Contents (Elt F) → (⟨S16x32x100x100x2, .f32⟩ : BufTy).Contents (Elt F)),
    unary main_v16 main_v64 ((extractStridedSlice S16x32x100x100x2 ![0, 0, 0, 0, 2] · slices_S16x32x100x100x4_S16x32x100x100x2_0_0_0_0_2) : (⟨S16x32x100x100x4, .f32⟩ : BufTy).Contents (Elt F) → (⟨S16x32x100x100x2, .f32⟩ : BufTy).Contents (Elt F)),
    unary main_v17 main_v65 ((extractStridedSlice S16x32x1x1x2 ![0, 0, 0, 0, 2] · slices_S16x32x1x1x4_S16x32x1x1x2_0_0_0_0_2) : (⟨S16x32x1x1x4, .f32⟩ : BufTy).Contents (Elt F) → (⟨S16x32x1x1x2, .f32⟩ : BufTy).Contents (Elt F)),
    unary main_v65 main_v66 (broadcastInDim S16x32x100x100x2 ![0, 1, 2, 3, 4] bcast_S16x32x1x1x2_S16x32x100x100x2_0_1_2_3_4 : (⟨S16x32x1x1x2, .f32⟩ : BufTy).Contents (Elt F) → (⟨S16x32x100x100x2, .f32⟩ : BufTy).Contents (Elt F)),
    binary main_v64 main_v66 main_v67 (maximumf : (⟨S16x32x100x100x2, .f32⟩ : BufTy).Contents (Elt F) → (⟨S16x32x100x100x2, .f32⟩ : BufTy).Contents (Elt F) → (⟨S16x32x100x100x2, .f32⟩ : BufTy).Contents (Elt F)),
    binary main_v67 main_v63 main_v68 (subf : (⟨S16x32x100x100x2, .f32⟩ : BufTy).Contents (Elt F) → (⟨S16x32x100x100x2, .f32⟩ : BufTy).Contents (Elt F) → (⟨S16x32x100x100x2, .f32⟩ : BufTy).Contents (Elt F)),
    nullary main_cst_3 (constant S_ .f32 0x00000000#32),
    unary main_cst_3 main_v69 (broadcastInDim S16x32x100x100x2 ![] bcast_S_S16x32x100x100x2 : (⟨S_, .f32⟩ : BufTy).Contents (Elt F) → (⟨S16x32x100x100x2, .f32⟩ : BufTy).Contents (Elt F)),
    binary main_v68 main_v69 main_v70 (maximumf : (⟨S16x32x100x100x2, .f32⟩ : BufTy).Contents (Elt F) → (⟨S16x32x100x100x2, .f32⟩ : BufTy).Contents (Elt F) → (⟨S16x32x100x100x2, .f32⟩ : BufTy).Contents (Elt F)),
    unary main_v70 main_v71 ((extractStridedSlice S16x32x100x100x1 ![0, 0, 0, 0, 0] · slices_S16x32x100x100x2_S16x32x100x100x1_0_0_0_0_0) : (⟨S16x32x100x100x2, .f32⟩ : BufTy).Contents (Elt F) → (⟨S16x32x100x100x1, .f32⟩ : BufTy).Contents (Elt F)),
    reshape main_v71 main_v72 (rfl : (.f32 : EltTy) = .f32) shapeCasts_S16x32x100x100x1_S16x32x100x100,
    unary main_v70 main_v73 ((extractStridedSlice S16x32x100x100x1 ![0, 0, 0, 0, 1] · slices_S16x32x100x100x2_S16x32x100x100x1_0_0_0_0_1) : (⟨S16x32x100x100x2, .f32⟩ : BufTy).Contents (Elt F) → (⟨S16x32x100x100x1, .f32⟩ : BufTy).Contents (Elt F)),
    reshape main_v73 main_v74 (rfl : (.f32 : EltTy) = .f32) shapeCasts_S16x32x100x100x1_S16x32x100x100,
    binary main_v72 main_v74 main_v75 (mulf : (⟨S16x32x100x100, .f32⟩ : BufTy).Contents (Elt F) → (⟨S16x32x100x100, .f32⟩ : BufTy).Contents (Elt F) → (⟨S16x32x100x100, .f32⟩ : BufTy).Contents (Elt F)),
    binary main_v75 main_v58 main_v76 (subf : (⟨S16x32x100x100, .f32⟩ : BufTy).Contents (Elt F) → (⟨S16x32x100x100, .f32⟩ : BufTy).Contents (Elt F) → (⟨S16x32x100x100, .f32⟩ : BufTy).Contents (Elt F)),
    binary main_v76 main_v75 main_v77 (Host.divf : (⟨S16x32x100x100, .f32⟩ : BufTy).Contents (Elt F) → (⟨S16x32x100x100, .f32⟩ : BufTy).Contents (Elt F) → (⟨S16x32x100x100, .f32⟩ : BufTy).Contents (Elt F)),
    binary main_v59 main_v77 main_v78 (subf : (⟨S16x32x100x100, .f32⟩ : BufTy).Contents (Elt F) → (⟨S16x32x100x100, .f32⟩ : BufTy).Contents (Elt F) → (⟨S16x32x100x100, .f32⟩ : BufTy).Contents (Elt F)),
    reshape main_v78 main_v79 (rfl : (.f32 : EltTy) = .f32) shapeCasts_S16x32x100x100_S16x32x10000 ]

/-- The operations of the first cell of greatest overlap. -/
abbrev opsBest : List (HloOp τ sig (Elt F)) :=
  [ TRef.nullary (TRef.of (T := ⟨S16x32x10000, .i32⟩) main_call0_v0) (iotaInDim S16x32x10000 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16x32x10000, .f32⟩) main_v79) (TRef.of (T := ⟨S16x32x10000, .i32⟩) main_call0_v0) (TRef.of (T := ⟨S_, .f32⟩) main_call0_cst) (TRef.of (T := ⟨S_, .i32⟩) main_call0_c) (TRef.of (T := ⟨S16x32, .f32⟩) main_call0_v1_0) (fun x y u v => fun j => (Host.argReduce reducer_argmax_f32_i32 x y u v reducesTo_S16x32x10000_S16x32_d2 h_S_ j).1),
    TRef.quaternary (TRef.of (T := ⟨S16x32x10000, .f32⟩) main_v79) (TRef.of (T := ⟨S16x32x10000, .i32⟩) main_call0_v0) (TRef.of (T := ⟨S_, .f32⟩) main_call0_cst) (TRef.of (T := ⟨S_, .i32⟩) main_call0_c) (TRef.of (T := ⟨S16x32, .i32⟩) main_v80) (fun x y u v => fun j => (Host.argReduce reducer_argmax_f32_i32 x y u v reducesTo_S16x32x10000_S16x32_d2 h_S_ j).2),
    nullary main_cst_4 (constant S_ .f32 0xFF800000#32),
    binary main_v79 main_cst_4 main_v81 ((fun x v => Host.reduce FloatOps.maximumf x v reducesTo_S16x32x10000_S16x32_d2 h_S_) : (⟨S16x32x10000, .f32⟩ : BufTy).Contents (Elt F) → (⟨S_, .f32⟩ : BufTy).Contents (Elt F) → (⟨S16x32, .f32⟩ : BufTy).Contents (Elt F)) ]

/-- The operations of that cell's row and column. -/
abbrev opsCell : List (HloOp τ sig (Elt F)) :=
  [ nullary main_c_5 (constantI S_ 32 100#32),
    TRef.unary (TRef.of (T := ⟨S_, .i32⟩) main_c_5) (TRef.of (T := ⟨S_, .i32⟩) main_call1_v0) id,
    TRef.unary (TRef.of (T := ⟨S_, .i32⟩) main_call1_v0) (TRef.of (T := ⟨S16x32, .i32⟩) main_call1_v1) (broadcastInDim S16x32 ![] bcast_S_S16x32),
    TRef.binary (TRef.of (T := ⟨S16x32, .i32⟩) main_v80) (TRef.of (T := ⟨S16x32, .i32⟩) main_call1_v1) (TRef.of (T := ⟨S16x32, .i32⟩) main_call1_v2) Host.divsi,
    TRef.unary (TRef.of (T := ⟨S16x32, .i32⟩) main_v80) (TRef.of (T := ⟨S16x32, .i32⟩) main_call1_v3) signi,
    TRef.unary (TRef.of (T := ⟨S_, .i32⟩) main_call1_v0) (TRef.of (T := ⟨S_, .i32⟩) main_call1_v4) signi,
    TRef.unary (TRef.of (T := ⟨S_, .i32⟩) main_call1_v4) (TRef.of (T := ⟨S16x32, .i32⟩) main_call1_v5) (broadcastInDim S16x32 ![] bcast_S_S16x32),
    TRef.binary (TRef.of (T := ⟨S16x32, .i32⟩) main_call1_v3) (TRef.of (T := ⟨S16x32, .i32⟩) main_call1_v5) (TRef.of (T := ⟨S16x32, .i1⟩) main_call1_v6) (cmpi .ne),
    TRef.unary (TRef.of (T := ⟨S_, .i32⟩) main_call1_v0) (TRef.of (T := ⟨S16x32, .i32⟩) main_call1_v7) (broadcastInDim S16x32 ![] bcast_S_S16x32),
    TRef.binary (TRef.of (T := ⟨S16x32, .i32⟩) main_v80) (TRef.of (T := ⟨S16x32, .i32⟩) main_call1_v7) (TRef.of (T := ⟨S16x32, .i32⟩) main_call1_v8) Host.remsi,
    TRef.nullary (TRef.of (T := ⟨S_, .i32⟩) main_call1_c) (constantI S_ 32 0#32),
    TRef.unary (TRef.of (T := ⟨S_, .i32⟩) main_call1_c) (TRef.of (T := ⟨S16x32, .i32⟩) main_call1_v9) (broadcastInDim S16x32 ![] bcast_S_S16x32),
    TRef.binary (TRef.of (T := ⟨S16x32, .i32⟩) main_call1_v8) (TRef.of (T := ⟨S16x32, .i32⟩) main_call1_v9) (TRef.of (T := ⟨S16x32, .i1⟩) main_call1_v10) (cmpi .ne),
    TRef.binary (TRef.of (T := ⟨S16x32, .i1⟩) main_call1_v6) (TRef.of (T := ⟨S16x32, .i1⟩) main_call1_v10) (TRef.of (T := ⟨S16x32, .i1⟩) main_call1_v11) andi,
    TRef.nullary (TRef.of (T := ⟨S_, .i32⟩) main_call1_c_0) (constantI S_ 32 1#32),
    TRef.unary (TRef.of (T := ⟨S_, .i32⟩) main_call1_c_0) (TRef.of (T := ⟨S16x32, .i32⟩) main_call1_v12) (broadcastInDim S16x32 ![] bcast_S_S16x32),
    TRef.binary (TRef.of (T := ⟨S16x32, .i32⟩) main_call1_v2) (TRef.of (T := ⟨S16x32, .i32⟩) main_call1_v12) (TRef.of (T := ⟨S16x32, .i32⟩) main_call1_v13) subi,
    TRef.ternary (TRef.of (T := ⟨S16x32, .i1⟩) main_call1_v11) (TRef.of (T := ⟨S16x32, .i32⟩) main_call1_v13) (TRef.of (T := ⟨S16x32, .i32⟩) main_call1_v2) (TRef.of (T := ⟨S16x32, .i32⟩) main_v82) select,
    nullary main_c_6 (constantI S_ 32 100#32),
    TRef.unary (TRef.of (T := ⟨S_, .i32⟩) main_c_6) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S16x32, .i32⟩) main_call2_v3) (broadcastInDim S16x32 ![] bcast_S_S16x32),
    TRef.binary (TRef.of (T := ⟨S16x32, .i32⟩) main_v80) (TRef.of (T := ⟨S16x32, .i32⟩) main_call2_v3) (TRef.of (T := ⟨S16x32, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S16x32, .i32⟩) main_call2_v5) (broadcastInDim S16x32 ![] bcast_S_S16x32),
    TRef.binary (TRef.of (T := ⟨S16x32, .i32⟩) main_call2_v4) (TRef.of (T := ⟨S16x32, .i32⟩) main_call2_v5) (TRef.of (T := ⟨S16x32, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S16x32, .i32⟩) main_call2_v7) (broadcastInDim S16x32 ![] bcast_S_S16x32),
    TRef.binary (TRef.of (T := ⟨S16x32, .i32⟩) main_call2_v4) (TRef.of (T := ⟨S16x32, .i32⟩) main_call2_v7) (TRef.of (T := ⟨S16x32, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S16x32, .i1⟩) main_call2_v10) (broadcastInDim S16x32 ![] bcast_S_S16x32),
    TRef.binary (TRef.of (T := ⟨S16x32, .i1⟩) main_call2_v8) (TRef.of (T := ⟨S16x32, .i1⟩) main_call2_v10) (TRef.of (T := ⟨S16x32, .i1⟩) main_call2_v11) (cmpi .ne),
    TRef.binary (TRef.of (T := ⟨S16x32, .i1⟩) main_call2_v11) (TRef.of (T := ⟨S16x32, .i1⟩) main_call2_v6) (TRef.of (T := ⟨S16x32, .i1⟩) main_call2_v12) andi,
    TRef.unary (TRef.of (T := ⟨S_, .i32⟩) main_call2_v2) (TRef.of (T := ⟨S16x32, .i32⟩) main_call2_v13) (broadcastInDim S16x32 ![] bcast_S_S16x32),
    TRef.binary (TRef.of (T := ⟨S16x32, .i32⟩) main_call2_v4) (TRef.of (T := ⟨S16x32, .i32⟩) main_call2_v13) (TRef.of (T := ⟨S16x32, .i32⟩) main_call2_v14) addi,
    TRef.ternary (TRef.of (T := ⟨S16x32, .i1⟩) main_call2_v12) (TRef.of (T := ⟨S16x32, .i32⟩) main_call2_v14) (TRef.of (T := ⟨S16x32, .i32⟩) main_call2_v4) (TRef.of (T := ⟨S16x32, .i32⟩) main_v83) select ]

/-- The operations of the window about it, first half. -/
abbrev opsMask1 : List (HloOp τ sig (Elt F)) :=
  [ unary main_v82 main_v84 (broadcastInDim S16x32x1 ![0, 1] bcast_S16x32_S16x32x1_0_1 : (⟨S16x32, .i32⟩ : BufTy).Contents (Elt F) → (⟨S16x32x1, .i32⟩ : BufTy).Contents (Elt F)),
    nullary main_c_7 (constantI S_ 32 2#32),
    unary main_c_7 main_v85 (broadcastInDim S16x32x1 ![] bcast_S_S16x32x1 : (⟨S_, .i32⟩ : BufTy).Contents (Elt F) → (⟨S16x32x1, .i32⟩ : BufTy).Contents (Elt F)),
    binary main_v84 main_v85 main_v86 (subi : (⟨S16x32x1, .i32⟩ : BufTy).Contents (Elt F) → (⟨S16x32x1, .i32⟩ : BufTy).Contents (Elt F) → (⟨S16x32x1, .i32⟩ : BufTy).Contents (Elt F)),
    unary main_v0 main_v87 (broadcastInDim S1x1x100 ![2] bcast_S100_S1x1x100_2 : (⟨S100, .i32⟩ : BufTy).Contents (Elt F) → (⟨S1x1x100, .i32⟩ : BufTy).Contents (Elt F)),
    unary main_v87 main_v88 (broadcastInDim S16x32x100 ![0, 1, 2] bcast_S1x1x100_S16x32x100_0_1_2 : (⟨S1x1x100, .i32⟩ : BufTy).Contents (Elt F) → (⟨S16x32x100, .i32⟩ : BufTy).Contents (Elt F)),
    unary main_v86 main_v89 (broadcastInDim S16x32x100 ![0, 1, 2] bcast_S16x32x1_S16x32x100_0_1_2 : (⟨S16x32x1, .i32⟩ : BufTy).Contents (Elt F) → (⟨S16x32x100, .i32⟩ : BufTy).Contents (Elt F)),
    binary main_v88 main_v89 main_v90 (cmpi .sge : (⟨S16x32x100, .i32⟩ : BufTy).Contents (Elt F) → (⟨S16x32x100, .i32⟩ : BufTy).Contents (Elt F) → (⟨S16x32x100, .i1⟩ : BufTy).Contents (Elt F)),
    unary main_v82 main_v91 (broadcastInDim S16x32x1 ![0, 1] bcast_S16x32_S16x32x1_0_1 : (⟨S16x32, .i32⟩ : BufTy).Contents (Elt F) → (⟨S16x32x1, .i32⟩ : BufTy).Contents (Elt F)),
    nullary main_c_8 (constantI S_ 32 1#32),
    unary main_c_8 main_v92 (broadcastInDim S16x32x1 ![] bcast_S_S16x32x1 : (⟨S_, .i32⟩ : BufTy).Contents (Elt F) → (⟨S16x32x1, .i32⟩ : BufTy).Contents (Elt F)),
    binary main_v91 main_v92 main_v93 (addi : (⟨S16x32x1, .i32⟩ : BufTy).Contents (Elt F) → (⟨S16x32x1, .i32⟩ : BufTy).Contents (Elt F) → (⟨S16x32x1, .i32⟩ : BufTy).Contents (Elt F)),
    nullary main_c_9 (constantI S_ 32 99#32),
    unary main_c_9 main_v94 (broadcastInDim S16x32x1 ![] bcast_S_S16x32x1 : (⟨S_, .i32⟩ : BufTy).Contents (Elt F) → (⟨S16x32x1, .i32⟩ : BufTy).Contents (Elt F)),
    binary main_v93 main_v94 main_v95 (minsi : (⟨S16x32x1, .i32⟩ : BufTy).Contents (Elt F) → (⟨S16x32x1, .i32⟩ : BufTy).Contents (Elt F) → (⟨S16x32x1, .i32⟩ : BufTy).Contents (Elt F)),
    unary main_v0 main_v96 (broadcastInDim S1x1x100 ![2] bcast_S100_S1x1x100_2 : (⟨S100, .i32⟩ : BufTy).Contents (Elt F) → (⟨S1x1x100, .i32⟩ : BufTy).Contents (Elt F)),
    unary main_v96 main_v97 (broadcastInDim S16x32x100 ![0, 1, 2] bcast_S1x1x100_S16x32x100_0_1_2 : (⟨S1x1x100, .i32⟩ : BufTy).Contents (Elt F) → (⟨S16x32x100, .i32⟩ : BufTy).Contents (Elt F)),
    unary main_v95 main_v98 (broadcastInDim S16x32x100 ![0, 1, 2] bcast_S16x32x1_S16x32x100_0_1_2 : (⟨S16x32x1, .i32⟩ : BufTy).Contents (Elt F) → (⟨S16x32x100, .i32⟩ : BufTy).Contents (Elt F)),
    binary main_v97 main_v98 main_v99 (cmpi .sle : (⟨S16x32x100, .i32⟩ : BufTy).Contents (Elt F) → (⟨S16x32x100, .i32⟩ : BufTy).Contents (Elt F) → (⟨S16x32x100, .i1⟩ : BufTy).Contents (Elt F)),
    binary main_v90 main_v99 main_v100 (andi : (⟨S16x32x100, .i1⟩ : BufTy).Contents (Elt F) → (⟨S16x32x100, .i1⟩ : BufTy).Contents (Elt F) → (⟨S16x32x100, .i1⟩ : BufTy).Contents (Elt F)),
    unary main_v83 main_v101 (broadcastInDim S16x32x1 ![0, 1] bcast_S16x32_S16x32x1_0_1 : (⟨S16x32, .i32⟩ : BufTy).Contents (Elt F) → (⟨S16x32x1, .i32⟩ : BufTy).Contents (Elt F)),
    nullary main_c_10 (constantI S_ 32 2#32),
    unary main_c_10 main_v102 (broadcastInDim S16x32x1 ![] bcast_S_S16x32x1 : (⟨S_, .i32⟩ : BufTy).Contents (Elt F) → (⟨S16x32x1, .i32⟩ : BufTy).Contents (Elt F)),
    binary main_v101 main_v102 main_v103 (subi : (⟨S16x32x1, .i32⟩ : BufTy).Contents (Elt F) → (⟨S16x32x1, .i32⟩ : BufTy).Contents (Elt F) → (⟨S16x32x1, .i32⟩ : BufTy).Contents (Elt F)),
    unary main_v1 main_v104 (broadcastInDim S1x1x100 ![2] bcast_S100_S1x1x100_2 : (⟨S100, .i32⟩ : BufTy).Contents (Elt F) → (⟨S1x1x100, .i32⟩ : BufTy).Contents (Elt F)),
    unary main_v104 main_v105 (broadcastInDim S16x32x100 ![0, 1, 2] bcast_S1x1x100_S16x32x100_0_1_2 : (⟨S1x1x100, .i32⟩ : BufTy).Contents (Elt F) → (⟨S16x32x100, .i32⟩ : BufTy).Contents (Elt F)),
    unary main_v103 main_v106 (broadcastInDim S16x32x100 ![0, 1, 2] bcast_S16x32x1_S16x32x100_0_1_2 : (⟨S16x32x1, .i32⟩ : BufTy).Contents (Elt F) → (⟨S16x32x100, .i32⟩ : BufTy).Contents (Elt F)) ]

/-- The operations of the window about it, second half. -/
abbrev opsMask2 : List (HloOp τ sig (Elt F)) :=
  [ binary main_v105 main_v106 main_v107 (cmpi .sge : (⟨S16x32x100, .i32⟩ : BufTy).Contents (Elt F) → (⟨S16x32x100, .i32⟩ : BufTy).Contents (Elt F) → (⟨S16x32x100, .i1⟩ : BufTy).Contents (Elt F)),
    unary main_v83 main_v108 (broadcastInDim S16x32x1 ![0, 1] bcast_S16x32_S16x32x1_0_1 : (⟨S16x32, .i32⟩ : BufTy).Contents (Elt F) → (⟨S16x32x1, .i32⟩ : BufTy).Contents (Elt F)),
    nullary main_c_11 (constantI S_ 32 1#32),
    unary main_c_11 main_v109 (broadcastInDim S16x32x1 ![] bcast_S_S16x32x1 : (⟨S_, .i32⟩ : BufTy).Contents (Elt F) → (⟨S16x32x1, .i32⟩ : BufTy).Contents (Elt F)),
    binary main_v108 main_v109 main_v110 (addi : (⟨S16x32x1, .i32⟩ : BufTy).Contents (Elt F) → (⟨S16x32x1, .i32⟩ : BufTy).Contents (Elt F) → (⟨S16x32x1, .i32⟩ : BufTy).Contents (Elt F)),
    nullary main_c_12 (constantI S_ 32 99#32),
    unary main_c_12 main_v111 (broadcastInDim S16x32x1 ![] bcast_S_S16x32x1 : (⟨S_, .i32⟩ : BufTy).Contents (Elt F) → (⟨S16x32x1, .i32⟩ : BufTy).Contents (Elt F)),
    binary main_v110 main_v111 main_v112 (minsi : (⟨S16x32x1, .i32⟩ : BufTy).Contents (Elt F) → (⟨S16x32x1, .i32⟩ : BufTy).Contents (Elt F) → (⟨S16x32x1, .i32⟩ : BufTy).Contents (Elt F)),
    unary main_v1 main_v113 (broadcastInDim S1x1x100 ![2] bcast_S100_S1x1x100_2 : (⟨S100, .i32⟩ : BufTy).Contents (Elt F) → (⟨S1x1x100, .i32⟩ : BufTy).Contents (Elt F)),
    unary main_v113 main_v114 (broadcastInDim S16x32x100 ![0, 1, 2] bcast_S1x1x100_S16x32x100_0_1_2 : (⟨S1x1x100, .i32⟩ : BufTy).Contents (Elt F) → (⟨S16x32x100, .i32⟩ : BufTy).Contents (Elt F)),
    unary main_v112 main_v115 (broadcastInDim S16x32x100 ![0, 1, 2] bcast_S16x32x1_S16x32x100_0_1_2 : (⟨S16x32x1, .i32⟩ : BufTy).Contents (Elt F) → (⟨S16x32x100, .i32⟩ : BufTy).Contents (Elt F)),
    binary main_v114 main_v115 main_v116 (cmpi .sle : (⟨S16x32x100, .i32⟩ : BufTy).Contents (Elt F) → (⟨S16x32x100, .i32⟩ : BufTy).Contents (Elt F) → (⟨S16x32x100, .i1⟩ : BufTy).Contents (Elt F)),
    binary main_v107 main_v116 main_v117 (andi : (⟨S16x32x100, .i1⟩ : BufTy).Contents (Elt F) → (⟨S16x32x100, .i1⟩ : BufTy).Contents (Elt F) → (⟨S16x32x100, .i1⟩ : BufTy).Contents (Elt F)),
    unary main_v100 main_v118 (broadcastInDim S16x32x100x1 ![0, 1, 2] bcast_S16x32x100_S16x32x100x1_0_1_2 : (⟨S16x32x100, .i1⟩ : BufTy).Contents (Elt F) → (⟨S16x32x100x1, .i1⟩ : BufTy).Contents (Elt F)),
    unary main_v117 main_v119 (broadcastInDim S16x32x1x100 ![0, 1, 3] bcast_S16x32x100_S16x32x1x100_0_1_3 : (⟨S16x32x100, .i1⟩ : BufTy).Contents (Elt F) → (⟨S16x32x1x100, .i1⟩ : BufTy).Contents (Elt F)),
    unary main_v118 main_v120 (broadcastInDim S16x32x100x100 ![0, 1, 2, 3] bcast_S16x32x100x1_S16x32x100x100_0_1_2_3 : (⟨S16x32x100x1, .i1⟩ : BufTy).Contents (Elt F) → (⟨S16x32x100x100, .i1⟩ : BufTy).Contents (Elt F)),
    unary main_v119 main_v121 (broadcastInDim S16x32x100x100 ![0, 1, 2, 3] bcast_S16x32x1x100_S16x32x100x100_0_1_2_3 : (⟨S16x32x1x100, .i1⟩ : BufTy).Contents (Elt F) → (⟨S16x32x100x100, .i1⟩ : BufTy).Contents (Elt F)),
    binary main_v120 main_v121 main_v122 (andi : (⟨S16x32x100x100, .i1⟩ : BufTy).Contents (Elt F) → (⟨S16x32x100x100, .i1⟩ : BufTy).Contents (Elt F) → (⟨S16x32x100x100, .i1⟩ : BufTy).Contents (Elt F)),
    unary main_v122 main_v123 (uitofp .f32 : (⟨S16x32x100x100, .i1⟩ : BufTy).Contents (Elt F) → (⟨S16x32x100x100, .f32⟩ : BufTy).Contents (Elt F)) ]

/-- The operations of the sums over the window. -/
abbrev opsSums : List (HloOp τ sig (Elt F)) :=
  [ nullary main_cst_13 (constant S_ .f32 0x3E99999A#32),
    unary main_cst_13 main_v124 (broadcastInDim S16x32 ![] bcast_S_S16x32 : (⟨S_, .f32⟩ : BufTy).Contents (Elt F) → (⟨S16x32, .f32⟩ : BufTy).Contents (Elt F)),
    binary main_v81 main_v124 main_v125 (cmpf .ogt : (⟨S16x32, .f32⟩ : BufTy).Contents (Elt F) → (⟨S16x32, .f32⟩ : BufTy).Contents (Elt F) → (⟨S16x32, .i1⟩ : BufTy).Contents (Elt F)),
    unary main_v125 main_v126 (uitofp .f32 : (⟨S16x32, .i1⟩ : BufTy).Contents (Elt F) → (⟨S16x32, .f32⟩ : BufTy).Contents (Elt F)),
    unary main_v17 main_v127 (broadcastInDim S16x32x100x100x4 ![0, 1, 2, 3, 4] bcast_S16x32x1x1x4_S16x32x100x100x4_0_1_2_3_4 : (⟨S16x32x1x1x4, .f32⟩ : BufTy).Contents (Elt F) → (⟨S16x32x100x100x4, .f32⟩ : BufTy).Contents (Elt F)),
    binary main_v16 main_v127 main_v128 (subf : (⟨S16x32x100x100x4, .f32⟩ : BufTy).Contents (Elt F) → (⟨S16x32x100x100x4, .f32⟩ : BufTy).Contents (Elt F) → (⟨S16x32x100x100x4, .f32⟩ : BufTy).Contents (Elt F)),
    unary main_v128 main_v129 (Host.absf : (⟨S16x32x100x100x4, .f32⟩ : BufTy).Contents (Elt F) → (⟨S16x32x100x100x4, .f32⟩ : BufTy).Contents (Elt F)),
    nullary main_cst_14 (constant S_ .f32 0x00000000#32),
    binary main_v129 main_cst_14 main_v130 ((fun x v => Host.reduceAdd x v reducesTo_S16x32x100x100x4_S16x32x100x100_d4 h_S_) : (⟨S16x32x100x100x4, .f32⟩ : BufTy).Contents (Elt F) → (⟨S_, .f32⟩ : BufTy).Contents (Elt F) → (⟨S16x32x100x100, .f32⟩ : BufTy).Contents (Elt F)),
    nullary main_cst_15 (constant S_ .f32 0x40800000#32),
    unary main_cst_15 main_v131 (broadcastInDim S16x32x100x100 ![] bcast_S_S16x32x100x100 : (⟨S_, .f32⟩ : BufTy).Contents (Elt F) → (⟨S16x32x100x100, .f32⟩ : BufTy).Contents (Elt F)),
    binary main_v130 main_v131 main_v132 (Host.divf : (⟨S16x32x100x100, .f32⟩ : BufTy).Contents (Elt F) → (⟨S16x32x100x100, .f32⟩ : BufTy).Contents (Elt F) → (⟨S16x32x100x100, .f32⟩ : BufTy).Contents (Elt F)),
    binary main_v132 main_v123 main_v133 (mulf : (⟨S16x32x100x100, .f32⟩ : BufTy).Contents (Elt F) → (⟨S16x32x100x100, .f32⟩ : BufTy).Contents (Elt F) → (⟨S16x32x100x100, .f32⟩ : BufTy).Contents (Elt F)),
    nullary main_cst_16 (constant S_ .f32 0x00000000#32),
    binary main_v133 main_cst_16 main_v134 ((fun x v => Host.reduceAdd x v reducesTo_S16x32x100x100_S16x32_d2_3 h_S_) : (⟨S16x32x100x100, .f32⟩ : BufTy).Contents (Elt F) → (⟨S_, .f32⟩ : BufTy).Contents (Elt F) → (⟨S16x32, .f32⟩ : BufTy).Contents (Elt F)),
    binary main_v126 main_v134 main_v135 (mulf : (⟨S16x32, .f32⟩ : BufTy).Contents (Elt F) → (⟨S16x32, .f32⟩ : BufTy).Contents (Elt F) → (⟨S16x32, .f32⟩ : BufTy).Contents (Elt F)),
    nullary main_cst_17 (constant S_ .f32 0x3F800000#32),
    unary main_cst_17 main_v136 (broadcastInDim S16x32x100x100 ![] bcast_S_S16x32x100x100 : (⟨S_, .f32⟩ : BufTy).Contents (Elt F) → (⟨S16x32x100x100, .f32⟩ : BufTy).Contents (Elt F)),
    binary main_v136 main_v78 main_v137 (subf : (⟨S16x32x100x100, .f32⟩ : BufTy).Contents (Elt F) → (⟨S16x32x100x100, .f32⟩ : BufTy).Contents (Elt F) → (⟨S16x32x100x100, .f32⟩ : BufTy).Contents (Elt F)),
    binary main_v137 main_v123 main_v138 (mulf : (⟨S16x32x100x100, .f32⟩ : BufTy).Contents (Elt F) → (⟨S16x32x100x100, .f32⟩ : BufTy).Contents (Elt F) → (⟨S16x32x100x100, .f32⟩ : BufTy).Contents (Elt F)),
    nullary main_cst_18 (constant S_ .f32 0x00000000#32),
    binary main_v138 main_cst_18 main_v139 ((fun x v => Host.reduceAdd x v reducesTo_S16x32x100x100_S16x32_d2_3 h_S_) : (⟨S16x32x100x100, .f32⟩ : BufTy).Contents (Elt F) → (⟨S_, .f32⟩ : BufTy).Contents (Elt F) → (⟨S16x32, .f32⟩ : BufTy).Contents (Elt F)),
    binary main_v126 main_v139 main_v140 (mulf : (⟨S16x32, .f32⟩ : BufTy).Contents (Elt F) → (⟨S16x32, .f32⟩ : BufTy).Contents (Elt F) → (⟨S16x32, .f32⟩ : BufTy).Contents (Elt F)),
    nullary main_cst_19 (constant S_ .f32 0x00000000#32),
    binary main_v123 main_cst_19 main_v141 ((fun x v => Host.reduceAdd x v reducesTo_S16x32x100x100_S16x32_d2_3 h_S_) : (⟨S16x32x100x100, .f32⟩ : BufTy).Contents (Elt F) → (⟨S_, .f32⟩ : BufTy).Contents (Elt F) → (⟨S16x32, .f32⟩ : BufTy).Contents (Elt F)),
    binary main_v126 main_v141 main_v142 (mulf : (⟨S16x32, .f32⟩ : BufTy).Contents (Elt F) → (⟨S16x32, .f32⟩ : BufTy).Contents (Elt F) → (⟨S16x32, .f32⟩ : BufTy).Contents (Elt F)) ]

/-- The operations of the two losses and their weighted sum. -/
abbrev opsTotal : List (HloOp τ sig (Elt F)) :=
  [ nullary main_cst_20 (constant S_ .f32 0x00000000#32),
    binary main_v142 main_cst_20 main_v143 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    nullary main_cst_21 (constant S_ .f32 0x3F800000#32),
    binary main_v143 main_cst_21 main_v144 (maximumf : (⟨S_, .f32⟩ : BufTy).Contents (Elt F) → (⟨S_, .f32⟩ : BufTy).Contents (Elt F) → (⟨S_, .f32⟩ : BufTy).Contents (Elt F)),
    nullary main_cst_22 (constant S_ .f32 0x00000000#32),
    binary main_v135 main_cst_22 main_v145 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    binary main_v145 main_v144 main_v146 (Host.divf : (⟨S_, .f32⟩ : BufTy).Contents (Elt F) → (⟨S_, .f32⟩ : BufTy).Contents (Elt F) → (⟨S_, .f32⟩ : BufTy).Contents (Elt F)),
    nullary main_cst_23 (constant S_ .f32 0x00000000#32),
    binary main_v140 main_cst_23 main_v147 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    binary main_v147 main_v144 main_v148 (Host.divf : (⟨S_, .f32⟩ : BufTy).Contents (Elt F) → (⟨S_, .f32⟩ : BufTy).Contents (Elt F) → (⟨S_, .f32⟩ : BufTy).Contents (Elt F)),
    nullary main_cst_24 (constant S_ .f32 0x3F800000#32),
    binary main_cst_24 main_v146 main_v149 (mulf : (⟨S_, .f32⟩ : BufTy).Contents (Elt F) → (⟨S_, .f32⟩ : BufTy).Contents (Elt F) → (⟨S_, .f32⟩ : BufTy).Contents (Elt F)),
    nullary main_cst_25 (constant S_ .f32 0x40000000#32),
    binary main_cst_25 main_v148 main_v150 (mulf : (⟨S_, .f32⟩ : BufTy).Contents (Elt F) → (⟨S_, .f32⟩ : BufTy).Contents (Elt F) → (⟨S_, .f32⟩ : BufTy).Contents (Elt F)),
    binary main_v149 main_v150 main_v151 (addf : (⟨S_, .f32⟩ : BufTy).Contents (Elt F) → (⟨S_, .f32⟩ : BufTy).Contents (Elt F) → (⟨S_, .f32⟩ : BufTy).Contents (Elt F)) ]

/-- All the operations. -/
abbrev ops : List (HloOp τ sig (Elt F)) :=
  (opsGather ++ opsGiou1) ++ ((opsGiou2 ++ (opsBest ++ (opsCell ++ opsMask1))) ++ (opsMask2 ++ (opsSums ++ opsTotal)))

/-- The first part of the program runs the first operations. -/
theorem part0_eq (c : Dev nD) : main_part0 (F := F) c = seq (opsGather ++ opsGiou1) := rfl

set_option maxHeartbeats 4000000 in
/-- The second part runs the next. -/
theorem part1_eq (c : Dev nD) : main_part1 (F := F) c = seq (opsGiou2 ++ (opsBest ++ (opsCell ++ opsMask1))) := rfl

/-- The third part runs the rest. -/
theorem part2_eq (c : Dev nD) : main_part2 (F := F) c = seq (opsMask2 ++ (opsSums ++ opsTotal)) := rfl

/-- The program runs the operations in order. -/
theorem main_eq (c : Dev nD) : main (F := F) c = seq ops := by
  rw [ops, seq_append, seq_append (opsGiou2 ++ (opsBest ++ (opsCell ++ opsMask1))), ← part0_eq c, ← part1_eq c, ← part2_eq c]
  rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- What the operations of the choice of every box's class map touch: unscoped buffers only, nothing allocated. -/
theorem touchGather : (opsGather : List (HloOp τ sig (Elt F))).Forall fun op => op.bufs ⊆ tcRefs τ sig ∧ op.fresh = ∅ :=
  ⟨⟨nullary_bufs_sub .., rfl⟩, ⟨nullary_bufs_sub .., rfl⟩, ⟨nullary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨unary_bufs_sub .., rfl⟩, ⟨binary_bufs_sub .., rfl⟩, ⟨binary_bufs_sub .., rfl⟩, ⟨unary_bufs_sub .., rfl⟩⟩

/-- What the operations of the overlaps, first half touch: unscoped buffers only, nothing allocated. -/
theorem touchGiou1 : (opsGiou1 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩⟩

/-- What the operations of the overlaps, second half touch: unscoped buffers only, nothing allocated. -/
theorem touchGiou2 : (opsGiou2 : List (HloOp τ sig (Elt F))).Forall fun op => op.bufs ⊆ tcRefs τ sig ∧ op.fresh = ∅ :=
  ⟨⟨binary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨binary_bufs_sub .., rfl⟩, ⟨binary_bufs_sub .., rfl⟩, ⟨reshape_bufs_sub .., rfl⟩⟩

/-- What the operations of the first cell of greatest overlap touch: unscoped buffers only, nothing allocated. -/
theorem touchBest : (opsBest : List (HloOp τ sig (Elt F))).Forall fun op => op.bufs ⊆ tcRefs τ sig ∧ op.fresh = ∅ :=
  ⟨⟨nullary_bufs_sub .., rfl⟩, ⟨nullary_bufs_sub .., rfl⟩, ⟨nullary_bufs_sub .., rfl⟩, ⟨quaternary_bufs_sub .., rfl⟩, ⟨quaternary_bufs_sub .., rfl⟩, ⟨nullary_bufs_sub .., rfl⟩, ⟨binary_bufs_sub .., rfl⟩⟩

/-- What the operations of that cell's row and column touch: unscoped buffers only, nothing allocated. -/
theorem touchCell : (opsCell : List (HloOp τ sig (Elt F))).Forall fun op => op.bufs ⊆ tcRefs τ sig ∧ op.fresh = ∅ :=
  ⟨⟨nullary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨nullary_bufs_sub .., rfl⟩, ⟨unary_bufs_sub .., rfl⟩, ⟨nullary_bufs_sub .., rfl⟩, ⟨binary_bufs_sub .., rfl⟩, ⟨nullary_bufs_sub .., rfl⟩, ⟨ternary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨binary_bufs_sub .., rfl⟩, ⟨ternary_bufs_sub .., rfl⟩⟩

/-- What the operations of the window about it, first half touch: unscoped buffers only, nothing allocated. -/
theorem touchMask1 : (opsMask1 : List (HloOp τ sig (Elt F))).Forall fun op => op.bufs ⊆ tcRefs τ sig ∧ op.fresh = ∅ :=
  ⟨⟨unary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩⟩

/-- What the operations of the window about it, second half touch: unscoped buffers only, nothing allocated. -/
theorem touchMask2 : (opsMask2 : List (HloOp τ sig (Elt F))).Forall fun op => op.bufs ⊆ tcRefs τ sig ∧ op.fresh = ∅ :=
  ⟨⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩⟩

/-- What the operations of the sums over the window touch: unscoped buffers only, nothing allocated. -/
theorem touchSums : (opsSums : List (HloOp τ sig (Elt F))).Forall fun op => op.bufs ⊆ tcRefs τ sig ∧ op.fresh = ∅ :=
  ⟨⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩⟩

/-- What the operations of the two losses and their weighted sum touch: unscoped buffers only, nothing allocated. -/
theorem touchTotal : (opsTotal : List (HloOp τ sig (Elt F))).Forall fun op => op.bufs ⊆ tcRefs τ sig ∧ op.fresh = ∅ :=
  ⟨⟨nullary_bufs_sub .., rfl⟩, ⟨binary_bufs_sub .., rfl⟩, ⟨nullary_bufs_sub .., rfl⟩, ⟨binary_bufs_sub .., rfl⟩, ⟨nullary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨nullary_bufs_sub .., rfl⟩, ⟨binary_bufs_sub .., rfl⟩, ⟨nullary_bufs_sub .., rfl⟩, ⟨binary_bufs_sub .., rfl⟩, ⟨binary_bufs_sub .., rfl⟩⟩

/-- The operations touch unscoped buffers only and allocate nothing. -/
theorem touch : ∀ op ∈ (ops : List (HloOp τ sig (Elt F))), op.bufs ⊆ tcRefs τ sig ∧ op.fresh = ∅ := fun op h => by
  simp only [ops, List.mem_append, or_assoc] at h
  rcases h with h | h | h | h | h | h | h | h | h
  exacts [List.forall_iff_forall_mem.mp touchGather op h, List.forall_iff_forall_mem.mp touchGiou1 op h, List.forall_iff_forall_mem.mp touchGiou2 op h, List.forall_iff_forall_mem.mp touchBest op h, List.forall_iff_forall_mem.mp touchCell op h, List.forall_iff_forall_mem.mp touchMask1 op h, List.forall_iff_forall_mem.mp touchMask2 op h, List.forall_iff_forall_mem.mp touchSums op h, List.forall_iff_forall_mem.mp touchTotal op h]

/-- The buffers written by the operations of the choice of every box's class map. -/
abbrev outGather : List (Ref sig .tc) := [main_v0, main_v1, main_v2, main_c, main_v3, main_v4, main_c_0, main_v5, main_v6, main_v7, main_c_1, main_v8, main_v9, main_c_2, main_v10, main_v11, main_v12, main_v13, main_v14, main_v15, main_v16, main_v17]

set_option maxHeartbeats 2000000 in
/-- They write no other. -/
theorem writesGather : (opsGather : List (HloOp τ sig (Elt F))).Forall fun op => op.writes ⊆ (outGather.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepGather (V : Valuation τ sig (Elt F)) (r : Ref sig .tc) (h : r ∉ outGather) :
    after opsGather V (Proc.devRef .tc r) = V (Proc.devRef .tc r) :=
  after_of_writes_sub opsGather _ writesGather h

/-- The buffers written by the operations of the overlaps, first half. -/
abbrev outGiou1 : List (Ref sig .tc) := [main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_cst, main_v49, main_v50, main_v51, main_v52, main_v53, main_v54]

set_option maxHeartbeats 2000000 in
/-- They write no other. -/
theorem writesGiou1 : (opsGiou1 : List (HloOp τ sig (Elt F))).Forall fun op => op.writes ⊆ (outGiou1.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepGiou1 (V : Valuation τ sig (Elt F)) (r : Ref sig .tc) (h : r ∉ outGiou1) :
    after opsGiou1 V (Proc.devRef .tc r) = V (Proc.devRef .tc r) :=
  after_of_writes_sub opsGiou1 _ writesGiou1 h

/-- The buffers written by the operations of the overlaps, second half. -/
abbrev outGiou2 : List (Ref sig .tc) := [main_v55, main_v56, main_v57, main_v58, main_v59, main_v60, main_v61, main_v62, main_v63, main_v64, main_v65, main_v66, main_v67, main_v68, main_cst_3, main_v69, main_v70, main_v71, main_v72, main_v73, main_v74, main_v75, main_v76, main_v77, main_v78, main_v79]

set_option maxHeartbeats 2000000 in
/-- They write no other. -/
theorem writesGiou2 : (opsGiou2 : List (HloOp τ sig (Elt F))).Forall fun op => op.writes ⊆ (outGiou2.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepGiou2 (V : Valuation τ sig (Elt F)) (r : Ref sig .tc) (h : r ∉ outGiou2) :
    after opsGiou2 V (Proc.devRef .tc r) = V (Proc.devRef .tc r) :=
  after_of_writes_sub opsGiou2 _ writesGiou2 h

/-- The buffers written by the operations of the first cell of greatest overlap. -/
abbrev outBest : List (Ref sig .tc) := [main_call0_v0, main_call0_cst, main_call0_c, main_call0_v1_0, main_v80, main_cst_4, main_v81]

set_option maxHeartbeats 2000000 in
/-- They write no other. -/
theorem writesBest : (opsBest : List (HloOp τ sig (Elt F))).Forall fun op => op.writes ⊆ (outBest.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepBest (V : Valuation τ sig (Elt F)) (r : Ref sig .tc) (h : r ∉ outBest) :
    after opsBest V (Proc.devRef .tc r) = V (Proc.devRef .tc r) :=
  after_of_writes_sub opsBest _ writesBest h

/-- The buffers written by the operations of that cell's row and column. -/
abbrev outCell : List (Ref sig .tc) := [main_c_5, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v82, main_c_6, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v83]

set_option maxHeartbeats 2000000 in
/-- They write no other. -/
theorem writesCell : (opsCell : List (HloOp τ sig (Elt F))).Forall fun op => op.writes ⊆ (outCell.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepCell (V : Valuation τ sig (Elt F)) (r : Ref sig .tc) (h : r ∉ outCell) :
    after opsCell V (Proc.devRef .tc r) = V (Proc.devRef .tc r) :=
  after_of_writes_sub opsCell _ writesCell h

/-- The buffers written by the operations of the window about it, first half. -/
abbrev outMask1 : List (Ref sig .tc) := [main_v84, main_c_7, main_v85, main_v86, main_v87, main_v88, main_v89, main_v90, main_v91, main_c_8, main_v92, main_v93, main_c_9, main_v94, main_v95, main_v96, main_v97, main_v98, main_v99, main_v100, main_v101, main_c_10, main_v102, main_v103, main_v104, main_v105, main_v106]

set_option maxHeartbeats 2000000 in
/-- They write no other. -/
theorem writesMask1 : (opsMask1 : List (HloOp τ sig (Elt F))).Forall fun op => op.writes ⊆ (outMask1.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepMask1 (V : Valuation τ sig (Elt F)) (r : Ref sig .tc) (h : r ∉ outMask1) :
    after opsMask1 V (Proc.devRef .tc r) = V (Proc.devRef .tc r) :=
  after_of_writes_sub opsMask1 _ writesMask1 h

/-- The buffers written by the operations of the window about it, second half. -/
abbrev outMask2 : List (Ref sig .tc) := [main_v107, main_v108, main_c_11, main_v109, main_v110, main_c_12, main_v111, main_v112, main_v113, main_v114, main_v115, main_v116, main_v117, main_v118, main_v119, main_v120, main_v121, main_v122, main_v123]

set_option maxHeartbeats 2000000 in
/-- They write no other. -/
theorem writesMask2 : (opsMask2 : List (HloOp τ sig (Elt F))).Forall fun op => op.writes ⊆ (outMask2.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepMask2 (V : Valuation τ sig (Elt F)) (r : Ref sig .tc) (h : r ∉ outMask2) :
    after opsMask2 V (Proc.devRef .tc r) = V (Proc.devRef .tc r) :=
  after_of_writes_sub opsMask2 _ writesMask2 h

/-- The buffers written by the operations of the sums over the window. -/
abbrev outSums : List (Ref sig .tc) := [main_cst_13, main_v124, main_v125, main_v126, main_v127, main_v128, main_v129, main_cst_14, main_v130, main_cst_15, main_v131, main_v132, main_v133, main_cst_16, main_v134, main_v135, main_cst_17, main_v136, main_v137, main_v138, main_cst_18, main_v139, main_v140, main_cst_19, main_v141, main_v142]

set_option maxHeartbeats 2000000 in
/-- They write no other. -/
theorem writesSums : (opsSums : List (HloOp τ sig (Elt F))).Forall fun op => op.writes ⊆ (outSums.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepSums (V : Valuation τ sig (Elt F)) (r : Ref sig .tc) (h : r ∉ outSums) :
    after opsSums V (Proc.devRef .tc r) = V (Proc.devRef .tc r) :=
  after_of_writes_sub opsSums _ writesSums h

/-- The buffers written by the operations of the two losses and their weighted sum. -/
abbrev outTotal : List (Ref sig .tc) := [main_cst_20, main_v143, main_cst_21, main_v144, main_cst_22, main_v145, main_v146, main_cst_23, main_v147, main_v148, main_cst_24, main_v149, main_cst_25, main_v150, main_v151]

set_option maxHeartbeats 2000000 in
/-- They write no other. -/
theorem writesTotal : (opsTotal : List (HloOp τ sig (Elt F))).Forall fun op => op.writes ⊆ (outTotal.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

/-- So every other buffer is kept. -/
theorem keepTotal (V : Valuation τ sig (Elt F)) (r : Ref sig .tc) (h : r ∉ outTotal) :
    after opsTotal V (Proc.devRef .tc r) = V (Proc.devRef .tc r) :=
  after_of_writes_sub opsTotal _ writesTotal h

/-- The contents after all the operations, stage after stage. -/
theorem after_ops (V : Valuation τ sig (Elt F)) : after ops V = after opsTotal (after opsSums (after opsMask2
    (after opsMask1 (after opsCell (after opsBest (after opsGiou2 (after opsGiou1 (after opsGather V)))))))) := by
  simp only [ops, after_append]

/-- Every execution of the reference ends with every buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq
    (fun _ => List.forall_iff_forall_mem.mpr fun op h => (touch op h).1) m ρ fun _ op h => (touch op h).2

/-- No operation writes an argument. -/
theorem kept (V : Valuation τ sig (Elt F)) (r : Ref sig .tc) (h : r ∉ outGather ++ outGiou1 ++ outGiou2 ++ outBest ++ outCell ++ outMask1 ++ outMask2 ++ outSums ++ outTotal) :
    after ops V (Proc.devRef .tc r) = V (Proc.devRef .tc r) := by
  simp only [List.mem_append, not_or] at h
  obtain ⟨⟨⟨⟨⟨⟨⟨⟨h1, h2⟩, h3⟩, h4⟩, h5⟩, h6⟩, h7⟩, h8⟩, h9⟩ := h
  rw [after_ops, keepTotal _ _ h9, keepSums _ _ h8, keepMask2 _ _ h7, keepMask1 _ _ h6, keepCell _ _ h5, keepBest _ _ h4,
    keepGiou2 _ _ h3, keepGiou1 _ _ h2, keepGather _ _ h1]

/-- The reference runs, keeps its arguments, and ends with every counter at zero. -/
theorem unchanged (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨(h c main_arg0).trans (kept _ _ (by decide)),
      (h c main_arg1).trans (kept _ _ (by decide)), (h c main_arg2).trans (kept _ _ (by decide))⟩,
      sem_eq_zero_of_no_sems (by decide) r.2⟩) (run m ρ)

end Cert.ReferenceIdeal.Ops

end
-- ==== Proof.Frames.lean ====
/- The frames: each program runs, keeps its arguments and ends with every counter at zero. -/
module

public import proofs.«01_k».proof.Defs
public import proofs.«01_k».proof.Proof.RegionKernel
public import proofs.«01_k».proof.Proof.RegionKernelIdeal
public import proofs.«01_k».proof.Proof.TableKernel
public import proofs.«01_k».proof.Proof.TableKernelIdeal
public import proofs.«01_k».proof.Proof.RefOps

@[expose] public section

namespace Cert.Proof

/-- The kernel, labels in range. -/
theorem frame_kernel : Cert.quiescent_Kernel :=
  fun m ρ h => Cert.Kernel.Region.unchanged m ρ (Cert.Kernel.Table.ok_of_pre m h)

/-- The idealized kernel, labels in range. -/
theorem frame_kernelIdeal : Cert.quiescent_KernelIdeal :=
  fun m ρ h => Cert.KernelIdeal.Region.unchanged m ρ (Cert.KernelIdeal.Table.ok_of_pre m h)

/-- The idealized kernel, predictions in order besides. -/
theorem frame_kernelIdeal_ordered : Cert.quiescent_KernelIdeal_pre_predictions_ordered :=
  fun m ρ h => Cert.KernelIdeal.Region.unchanged m ρ
    (Cert.KernelIdeal.Table.ok_of_pre m fun c => Cert.Words.labels_of_ordered _ _ _ (h c).1)

/-- The idealized reference. -/
theorem frame_reference : Cert.quiescent_ReferenceIdeal :=
  fun m ρ _ => Cert.ReferenceIdeal.Ops.unchanged m ρ

/-- The idealized reference, predictions in order. -/
theorem frame_reference_ordered : Cert.quiescent_ReferenceIdeal_pre_predictions_ordered :=
  fun m ρ _ => Cert.ReferenceIdeal.Ops.unchanged m ρ

end Cert.Proof
-- ==== Proof.Row.lean ====
/- One ground-truth box's row of the kernel's output block, as vector operations over the box's four coordinates and the
   four coordinate planes of its class map. The body computes thirty-two of these, one after another; `Rows` shows that
   each of them is this one function. -/
module

public import proofs.«01_k».proof.Proof.Gen.KernelIdeal.Skeleton

@[expose] public section

noncomputable section

namespace Cert.KernelIdeal.Row

open Idealize.ShloMosaic Cert.KernelIdeal.Gen

variable {F : FTy → Type} [FloatOps F]

/-- One value in every cell of the grid. -/
def all (x : F .f32) : FVec F S100x100 .f32 := broadcast S100x100 x

/-- A printed constant in the one cell of a `[1, 1]` vector. -/
def one (w : BitVec 32) : FVec F S1x1 .f32 := broadcast S1x1 (Scalar.ofBits .f32 w)

/-- A `[1, 1]` vector's value in every cell of the grid. -/
def spread (v : FVec F S1x1 .f32) : FVec F S100x100 .f32 := broadcastTo S100x100 v broadcasts_S1x1_S100x100

/-- A `[1, 1]` vector's value in every lane of the row. -/
def lanes (v : FVec F S1x1 .f32) : FVec F S1x128 .f32 := broadcastTo S1x128 v broadcasts_S1x1_S1x128

/-- The overlap of the predicted boxes with the box `a b c d`. -/
def inter (a b c d : F .f32) (p q r s : FVec F S100x100 .f32) : FVec F S100x100 .f32 :=
  mulf (maximumf (subf (minimumf r (all c)) (maximumf p (all a))) (broadcast S100x100 (Scalar.ofBits .f32 0x00000000#32)))
    (maximumf (subf (minimumf s (all d)) (maximumf q (all b))) (broadcast S100x100 (Scalar.ofBits .f32 0x00000000#32)))

/-- The area of the union. -/
def union (a b c d : F .f32) (p q r s : FVec F S100x100 .f32) : FVec F S100x100 .f32 :=
  subf (addf (mulf (subf r p) (subf s q)) (all (Scalar.mulf (Scalar.subf c a) (Scalar.subf d b)))) (inter a b c d p q r s)

/-- The area of the enclosing box. -/
def hull (a b c d : F .f32) (p q r s : FVec F S100x100 .f32) : FVec F S100x100 .f32 :=
  mulf (subf (maximumf r (all c)) (minimumf p (all a))) (subf (maximumf s (all d)) (minimumf q (all b)))

/-- The generalised overlap of every cell's box with the box `a b c d`. -/
def giou (a b c d : F .f32) (p q r s : FVec F S100x100 .f32) : FVec F S100x100 .f32 :=
  subf (divf (inter a b c d p q r s) (union a b c d p q r s))
    (divf (subf (hull a b c d p q r s) (union a b c d p q r s)) (hull a b c d p q r s))

/-- The greatest value of a grid. -/
def top (g : FVec F S100x100 .f32) : FVec F S1x1 .f32 :=
  shapeCast S1x1 (multiReduction .maximumf [1] S1
    (shapeCast S1x100 (multiReduction .maximumf [0] S100 g 0xFF800000#32 reduces_S100x100_S100 (.inl rfl) rfl) shapeCasts_S100_S1x100)
    0xFF800000#32 reduces_S1x100_S1 (.inl rfl) rfl) shapeCasts_S1_S1x1

/-- The least value of a grid. -/
def least (g : FVec F S100x100 .f32) : FVec F S1x1 .f32 :=
  shapeCast S1x1 (multiReduction .minimumf [1] S1
    (shapeCast S1x100 (multiReduction .minimumf [0] S100 g 0x7F800000#32 reduces_S100x100_S100 (.inl rfl) rfl) shapeCasts_S100_S1x100)
    0x7F800000#32 reduces_S1x100_S1 (.inl rfl) rfl) shapeCasts_S1_S1x1

/-- The total of a grid. -/
def total (g : FVec F S100x100 .f32) : FVec F S1x1 .f32 :=
  shapeCast S1x1 (multiReduction .add [1] S1
    (shapeCast S1x100 (multiReduction .add [0] S100 g 0x00000000#32 reduces_S100x100_S100 (.inl rfl) rfl) shapeCasts_S100_S1x100)
    0x00000000#32 reduces_S1x100_S1 (.inl rfl) rfl) shapeCasts_S1_S1x1

/-- Each cell's row number. -/
def rowIx : FVec F S100x100 .f32 := sitofp .f32 (iota .tc S100x100 32 [0] iota_S100x100_d0_w32)

/-- Each cell's column number. -/
def colIx : FVec F S100x100 .f32 := sitofp .f32 (iota .tc S100x100 32 [1] iota_S100x100_d1_w32)

/-- The least key among the cells that attain the greatest value. -/
def key (g : FVec F S100x100 .f32) : FVec F S1x1 .f32 :=
  least (select (cmpf .oeq g (spread (top g)))
    (addf (mulf rowIx (all (Scalar.ofBits .f32 0x43000000#32))) colIx) (all (Scalar.ofBits .f32 0x7F7FC99E#32)))

/-- The key's row. -/
def keyRow (k : FVec F S1x1 .f32) : FVec F S1x1 .f32 := floor (mulf k (one 0x3C000000#32))

/-- The key's column. -/
def keyCol (k : FVec F S1x1 .f32) : FVec F S1x1 .f32 := subf k (mulf (keyRow k) (one 0x43000000#32))

/-- Whether a coordinate lies in the window about `v`. -/
def near (ix : FVec F S100x100 .f32) (v : FVec F S1x1 .f32) : IVec S100x100 1 :=
  andi (cmpf .oge ix (spread (subf v (one 0x40000000#32))))
    (cmpf .ole ix (spread (minimumf (addf v (one 0x3F800000#32)) (one 0x42C60000#32))))

/-- One in the window about the key's cell, zero elsewhere. -/
def window (k : FVec F S1x1 .f32) : FVec F S100x100 .f32 :=
  select (andi (near rowIx (keyRow k)) (near colIx (keyCol k)))
    (all (Scalar.ofBits .f32 0x3F800000#32)) (all (Scalar.ofBits .f32 0x00000000#32))

/-- The number of coordinates in the window about `v`. -/
def span (v : FVec F S1x1 .f32) : FVec F S1x1 .f32 :=
  addf (subf (minimumf (addf v (one 0x3F800000#32)) (one 0x42C60000#32))
    (maximumf (subf v (one 0x40000000#32)) (one 0x00000000#32))) (one 0x3F800000#32)

/-- The number of cells in the window. -/
def cells (k : FVec F S1x1 .f32) : FVec F S1x1 .f32 := mulf (span (keyRow k)) (span (keyCol k))

/-- The mean absolute difference of every cell's box from the box `a b c d`. -/
def dist (a b c d : F .f32) (p q r s : FVec F S100x100 .f32) : FVec F S100x100 .f32 :=
  mulf (addf (addf (addf (absf (subf p (all a))) (absf (subf q (all b)))) (absf (subf r (all c)))) (absf (subf s (all d))))
    (all (Scalar.ofBits .f32 0x3E800000#32))

/-- One in lane `n`, zero elsewhere. -/
def lane (n : BitVec 32) : FVec F S1x128 .f32 :=
  select (cmpi .eq (iota .tc S1x128 32 [1] iota_S1x128_d1_w32) (broadcast S1x128 n))
    (broadcast S1x128 (Scalar.ofBits .f32 0x3F800000#32)) (broadcast S1x128 (Scalar.ofBits .f32 0x00000000#32))

/-- One when the greatest value passes the threshold, zero otherwise. -/
def valid (g : FVec F S100x100 .f32) : FVec F S1x1 .f32 :=
  select (cmpf .ogt (top g) (one 0x3E99999A#32)) (one 0x3F800000#32) (one 0x00000000#32)

/-- The row from a grid of generalised overlaps and a grid of distances. -/
def rowOf (g l : FVec F S100x100 .f32) : FVec F S1x128 .f32 :=
  mulf (addf (addf (mulf (lane 0#32) (lanes (total (mulf l (window (key g))))))
      (mulf (lane 1#32) (lanes (subf (cells (key g)) (total (mulf g (window (key g))))))))
    (mulf (lane 2#32) (lanes (cells (key g))))) (lanes (valid g))

/-- A coordinate plane as loaded, on the grid. -/
def grid (p : Vec F S1x1x100x100 .f32) : FVec F S100x100 .f32 := shapeCast S100x100 p shapeCasts_S1x1x100x100_S100x100

/-- The row of the box `a b c d` against the four planes of its class map. -/
def row (a b c d : F .f32) (p q r s : Vec F S1x1x100x100 .f32) : FVec F S1x128 .f32 :=
  rowOf (giou a b c d (grid p) (grid q) (grid r) (grid s)) (dist a b c d (grid p) (grid q) (grid r) (grid s))

end Cert.KernelIdeal.Row

end
-- ==== Proof.Rows.lean ====
module

public import proofs.«01_k».proof.Proof.Row
public import proofs.«01_k».proof.Proof.Gen.KernelIdeal.Frame.RunA
public import Idealize.ShloMosaic.Lib.Pipeline.ReadBack
public import Idealize.ShloMosaic.Lib.Pipeline.Value
public import Idealize.ShloMosaic.Lib.Pointwise

@[expose] public section

set_option maxRecDepth 16384

noncomputable section

namespace Cert.KernelIdeal.Row

open Idealize.ShloMosaic Cert.KernelIdeal.Gen

variable {F : FTy → Type} [FloatOps F]

/-- A coordinate of a ground-truth box, as the body loads it. -/
def word (i : grid0.Coords) (k j : BitVec 32) (h : ∀ a, (k0_off2 i k j) a + S1.size a ≤ S2048.size a)
    (arg34 : Memref sig .tc .smem S2048 .f32) (harg34 : arg34.IsWhole) (x : Vec F S2048 .f32) : F .f32 :=
  View.readAt (Elt F) arg34.view (Rect.unit (s := S2048) (k0_off2 i k j) S1.size h).toLoadRect (harg34.unread x)
    (Shape.Idx.first (s := S1) (by decide))

/-- A coordinate plane of a class map, as the body loads it. -/
def plane (j : ℕ) (h : ∀ a, S1x1x100x100.size a = 0 ∨ (![0, 0, j, 0] : Fin 4 → Nat) a + (![1, 1, 4, 1] : Fin 4 → Nat) a * (S1x1x100x100.size a - 1) < S1x1x400x100.size a)
    (arg : Memref sig .tc .vmem S1x1x400x100 .f32) (harg : arg.IsWhole)
    (x : Vec F S1x1x400x100 .f32) : Vec F S1x1x100x100 .f32 :=
  View.readAt (Elt F) arg.view ⟨![0, 0, j, 0], S1x1x100x100.size, ![1, 1, 4, 1], h⟩ (harg.unread x)

/-- The coordinate `j` of box `k` of the group of point `i`. -/
def corner (i : grid0.Coords) (k : Fin 32) (j : Fin 4) (x : Vec F S2048 .f32) : F .f32 :=
  x (ix1 ⟨128 * (i 0).val + 4 * k.val + j.val, by have : (i 0).val < 16 := (i 0).isLt; omega⟩)

/-- The plane `j` of a class map: every fourth row, from row `j`. -/
def layer (j : Fin 4) (x : Vec F S1x1x400x100 .f32) : Vec F S1x1x100x100 .f32 := fun y =>
  x (ix4 (0 : Fin 1) (0 : Fin 1) ⟨4 * (y 2).val + j.val, by have : (y 2).val < 100 := (y 2).isLt; omega⟩ (y 3))

/-- The row of box `k` of the group of point `i` against its class map `x`. -/
def boxRow (i : grid0.Coords) (k : Fin 32) (x : Vec F S1x1x400x100 .f32) (w : Vec F S2048 .f32) : FVec F S1x128 .f32 :=
  row (corner i k 0 w) (corner i k 1 w) (corner i k 2 w) (corner i k 3 w) (layer 0 x) (layer 1 x) (layer 2 x) (layer 3 x)

/-- A loaded coordinate is the one its offset says. -/
theorem word_eq (i : grid0.Coords) (k : Fin 32) (j : Fin 4)
    (arg34 : Memref sig .tc .smem S2048 .f32) (harg34 : arg34.IsWhole) (x : Vec F S2048 .f32) :
    word i (BitVec.ofNat 32 k.val) (BitVec.ofNat 32 j.val) (k0_off2_inb i k j) arg34 harg34 x = corner i k j x := by
  unfold word corner
  rw [View.readAt_apply, harg34.read_unread]
  congr 1
  funext a
  obtain rfl : a = 0 := Subsingleton.elim _ _
  refine Fin.ext ?_
  have e := congrFun (k0_off2_eq i k j) 0
  show k0_off2 i (BitVec.ofNat 32 k.val) (BitVec.ofNat 32 j.val) 0 + 1 * 0 = 128 * (i 0).val + 4 * k.val + j.val
  rw [e]
  rfl

/-- A loaded plane is every fourth row of the map. -/
theorem plane_eq (j : Fin 4) (h) (arg : Memref sig .tc .vmem S1x1x400x100 .f32) (harg : arg.IsWhole)
    (x : Vec F S1x1x400x100 .f32) : plane j.val h arg harg x = layer j x := by
  funext y
  unfold plane layer
  rw [View.readAt_apply, harg.read_unread]
  congr 1
  funext a
  refine Fin.ext ?_
  match a with
  | 0 => show 0 + 1 * (y 0).val = 0; have : (y 0).val < 1 := (y 0).isLt; omega
  | 1 => show 0 + 1 * (y 1).val = 0; have : (y 1).val < 1 := (y 1).isLt; omega
  | 2 => show j.val + 4 * (y 2).val = 4 * (y 2).val + j.val; omega
  | 3 => show 0 + 1 * (y 3).val = (y 3).val; omega

/-- So the row of a box is a function of its map and of the boxes. -/
theorem row_box (i : grid0.Coords) (k : Fin 32) (arg : Memref sig .tc .vmem S1x1x400x100 .f32) (harg : arg.IsWhole)
    (x : Vec F S1x1x400x100 .f32) (arg34 : Memref sig .tc .smem S2048 .f32) (harg34 : arg34.IsWhole) (w : Vec F S2048 .f32) :
    row (word i (BitVec.ofNat 32 k.val) (BitVec.ofNat 32 (0 : Fin 4).val) (k0_off2_inb i k 0) arg34 harg34 w)
      (word i (BitVec.ofNat 32 k.val) (BitVec.ofNat 32 (1 : Fin 4).val) (k0_off2_inb i k 1) arg34 harg34 w)
      (word i (BitVec.ofNat 32 k.val) (BitVec.ofNat 32 (2 : Fin 4).val) (k0_off2_inb i k 2) arg34 harg34 w)
      (word i (BitVec.ofNat 32 k.val) (BitVec.ofNat 32 (3 : Fin 4).val) (k0_off2_inb i k 3) arg34 harg34 w)
      (plane (0 : Fin 4).val inb_S1x1x400x100_S1x1x100x100_0_0_0_0_s_1_1_4_1 arg harg x)
      (plane (1 : Fin 4).val inb_S1x1x400x100_S1x1x100x100_0_0_1_0_s_1_1_4_1 arg harg x)
      (plane (2 : Fin 4).val inb_S1x1x400x100_S1x1x100x100_0_0_2_0_s_1_1_4_1 arg harg x)
      (plane (3 : Fin 4).val inb_S1x1x400x100_S1x1x100x100_0_0_3_0_s_1_1_4_1 arg harg x) = boxRow i k x w := by
  rw [word_eq, word_eq, word_eq, word_eq, plane_eq, plane_eq, plane_eq, plane_eq]
  rfl

variable (c : Dev nD) (i : grid0.Coords) (arg2 : Memref sig .tc .vmem S1x1x400x100 .f32) (harg2 : arg2.IsWhole) (arg3 : Memref sig .tc .vmem S1x1x400x100 .f32) (harg3 : arg3.IsWhole) (arg4 : Memref sig .tc .vmem S1x1x400x100 .f32) (harg4 : arg4.IsWhole) (arg5 : Memref sig .tc .vmem S1x1x400x100 .f32) (harg5 : arg5.IsWhole) (arg6 : Memref sig .tc .vmem S1x1x400x100 .f32) (harg6 : arg6.IsWhole) (arg7 : Memref sig .tc .vmem S1x1x400x100 .f32) (harg7 : arg7.IsWhole) (arg8 : Memref sig .tc .vmem S1x1x400x100 .f32) (harg8 : arg8.IsWhole) (arg9 : Memref sig .tc .vmem S1x1x400x100 .f32) (harg9 : arg9.IsWhole) (arg10 : Memref sig .tc .vmem S1x1x400x100 .f32) (harg10 : arg10.IsWhole) (arg11 : Memref sig .tc .vmem S1x1x400x100 .f32) (harg11 : arg11.IsWhole) (arg12 : Memref sig .tc .vmem S1x1x400x100 .f32) (harg12 : arg12.IsWhole) (arg13 : Memref sig .tc .vmem S1x1x400x100 .f32) (harg13 : arg13.IsWhole) (arg14 : Memref sig .tc .vmem S1x1x400x100 .f32) (harg14 : arg14.IsWhole) (arg15 : Memref sig .tc .vmem S1x1x400x100 .f32) (harg15 : arg15.IsWhole) (arg16 : Memref sig .tc .vmem S1x1x400x100 .f32) (harg16 : arg16.IsWhole) (arg17 : Memref sig .tc .vmem S1x1x400x100 .f32) (harg17 : arg17.IsWhole) (arg18 : Memref sig .tc .vmem S1x1x400x100 .f32) (harg18 : arg18.IsWhole) (arg19 : Memref sig .tc .vmem S1x1x400x100 .f32) (harg19 : arg19.IsWhole) (arg20 : Memref sig .tc .vmem S1x1x400x100 .f32) (harg20 : arg20.IsWhole) (arg21 : Memref sig .tc .vmem S1x1x400x100 .f32) (harg21 : arg21.IsWhole) (arg22 : Memref sig .tc .vmem S1x1x400x100 .f32) (harg22 : arg22.IsWhole) (arg23 : Memref sig .tc .vmem S1x1x400x100 .f32) (harg23 : arg23.IsWhole) (arg24 : Memref sig .tc .vmem S1x1x400x100 .f32) (harg24 : arg24.IsWhole) (arg25 : Memref sig .tc .vmem S1x1x400x100 .f32) (harg25 : arg25.IsWhole) (arg26 : Memref sig .tc .vmem S1x1x400x100 .f32) (harg26 : arg26.IsWhole) (arg27 : Memref sig .tc .vmem S1x1x400x100 .f32) (harg27 : arg27.IsWhole) (arg28 : Memref sig .tc .vmem S1x1x400x100 .f32) (harg28 : arg28.IsWhole) (arg29 : Memref sig .tc .vmem S1x1x400x100 .f32) (harg29 : arg29.IsWhole) (arg30 : Memref sig .tc .vmem S1x1x400x100 .f32) (harg30 : arg30.IsWhole) (arg31 : Memref sig .tc .vmem S1x1x400x100 .f32) (harg31 : arg31.IsWhole) (arg32 : Memref sig .tc .vmem S1x1x400x100 .f32) (harg32 : arg32.IsWhole) (arg33 : Memref sig .tc .vmem S1x1x400x100 .f32) (harg33 : arg33.IsWhole) (arg34 : Memref sig .tc .smem S2048 .f32) (harg34 : arg34.IsWhole) (arg36 : Memref sig .tc .vmem S32x100x100 .f32) (harg36 : arg36.IsWhole) (x0 x1 x2 x3 x4 x5 x6 x7 x8 x9 x10 x11 x12 x13 x14 x15 x16 x17 x18 x19 x20 x21 x22 x23 x24 x25 x26 x27 x28 x29 x30 x31 : Vec F S1x1x400x100 .f32) (x32 : Vec F S2048 .f32)

set_option maxHeartbeats 2000000 in
/-- The row the body computes for box 0 of its group. -/
theorem row_0 : kernelRun0_A.sl.r_27 c i arg2 harg2 arg34 harg34 arg36 x0 x32 = boxRow i 0 x0 x32 := by
  simp only [kernelRun0_A.sl.r_27, kernelRun0_A.sl.r_23, kernelRun0_A.sl.v76, kernelRun0_A.sl.HS0_1, kernelRun0_A.sl.r_13, kernelRun0_A.sl.r_3, kernelRun0_A.sl.r_12, kernelRun0_A.sl.v19, kernelRun0_A.sl.r_2, kernelRun0_A.sl.r_11, kernelRun0_A.sl.v17, kernelRun0_A.sl.r_1, kernelRun0_A.sl.r_10, kernelRun0_A.sl.v15, kernelRun0_A.sl.r, kernelRun0_A.sl.r_9, kernelRun0_A.sl.r_8, kernelRun0_A.sl.v21, kernelRun0_A.sl.r_7, kernelRun0_A.sl.r_6, kernelRun0_A.sl.r_5, kernelRun0_A.sl.r_4, kernelRun0_A.sl.r_18, kernelRun0_A.sl.r_15, kernelRun0_A.sl.r_17, kernelRun0_A.sl.r_16, kernelRun0_A.sl.r_22, kernelRun0_A.sl.r_21, kernelRun0_A.sl.r_20, kernelRun0_A.sl.r_19, kernelRun0_A.sl.r_14, View.readCov_cons_toLoadRect]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, shapeCast_shapeCast]
  exact row_box i 0 arg2 harg2 x0 arg34 harg34 x32

set_option maxHeartbeats 2000000 in
/-- The row the body computes for box 1 of its group. -/
theorem row_1 : kernelRun0_A.sl.r_53 c i arg2 harg2 arg3 harg3 arg34 harg34 arg36 x0 x1 x32 = boxRow i 1 x1 x32 := by
  simp only [kernelRun0_A.sl.r_53, kernelRun0_A.sl.r_48, kernelRun0_A.sl.r_43, kernelRun0_A.sl.r_41, kernelRun0_A.sl.v278, kernelRun0_A.sl.HS0_2, kernelRun0_A.sl.r_37, kernelRun0_A.sl.v221, kernelRun0_A.sl.r_26, kernelRun0_A.sl.r_36, kernelRun0_A.sl.v219, kernelRun0_A.sl.r_25, kernelRun0_A.sl.r_35, kernelRun0_A.sl.v217, kernelRun0_A.sl.r_24, kernelRun0_A.sl.r_34, kernelRun0_A.sl.v223, kernelRun0_A.sl.r_28, kernelRun0_A.sl.r_33, kernelRun0_A.sl.r_32, kernelRun0_A.sl.r_40, kernelRun0_A.sl.r_39, kernelRun0_A.sl.r_31, kernelRun0_A.sl.r_30, kernelRun0_A.sl.r_29, kernelRun0_A.sl.v378, kernelRun0_A.sl.r_47, kernelRun0_A.sl.r_38, kernelRun0_A.sl.r_46, kernelRun0_A.sl.r_44, kernelRun0_A.sl.r_42, kernelRun0_A.sl.r_45, View.readCov_cons_toLoadRect]
  simp only [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, shapeCast_shapeCast]
  exact row_box i 1 arg3 harg3 x1 arg34 harg34 x32

set_option maxHeartbeats 2000000 in
/-- The row the body computes for box 2 of its group. -/
theorem row_2 : kernelRun0_A.sl.r_76 c i arg2 harg2 arg3 harg3 arg4 harg4 arg34 harg34 arg36 x0 x1 x2 x32 = boxRow i 2 x2 x32 := by
  simp only [kernelRun0_A.sl.r_76, kernelRun0_A.sl.r_71, kernelRun0_A.sl.r_59, kernelRun0_A.sl.r_58, kernelRun0_A.sl.v425, kernelRun0_A.sl.v423, kernelRun0_A.sl.r_55, kernelRun0_A.sl.v421, kernelRun0_A.sl.r_54, kernelRun0_A.sl.v419, kernelRun0_A.sl.r_52, kernelRun0_A.sl.r_51, kernelRun0_A.sl.r_50, kernelRun0_A.sl.r_49, kernelRun0_A.sl.r_70, kernelRun0_A.sl.v480, kernelRun0_A.sl.HS0_3, kernelRun0_A.sl.r_69, kernelRun0_A.sl.r_61, kernelRun0_A.sl.r_68, kernelRun0_A.sl.r_67, kernelRun0_A.sl.r_60, kernelRun0_A.sl.r_66, kernelRun0_A.sl.r_64, kernelRun0_A.sl.r_63, kernelRun0_A.sl.r_62, kernelRun0_A.sl.r_57, kernelRun0_A.sl.r_56, kernelRun0_A.sl.r_65, View.readCov_cons_toLoadRect]
  simp only [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, shapeCast_shapeCast]
  exact row_box i 2 arg4 harg4 x2 arg34 harg34 x32

set_option maxHeartbeats 2000000 in
/-- The row the body computes for box 3 of its group. -/
theorem row_3 : kernelRun0_A.sl.r_100 c i arg2 harg2 arg3 harg3 arg4 harg4 arg5 harg5 arg34 harg34 arg36 x0 x1 x2 x3 x32 = boxRow i 3 x3 x32 := by
  simp only [kernelRun0_A.sl.r_100, kernelRun0_A.sl.r_96, kernelRun0_A.sl.v682, kernelRun0_A.sl.HS0_4, kernelRun0_A.sl.r_86, kernelRun0_A.sl.r_75, kernelRun0_A.sl.r_85, kernelRun0_A.sl.v625, kernelRun0_A.sl.r_74, kernelRun0_A.sl.r_84, kernelRun0_A.sl.v623, kernelRun0_A.sl.r_73, kernelRun0_A.sl.r_83, kernelRun0_A.sl.v621, kernelRun0_A.sl.r_72, kernelRun0_A.sl.r_82, kernelRun0_A.sl.r_81, kernelRun0_A.sl.v627, kernelRun0_A.sl.r_80, kernelRun0_A.sl.r_79, kernelRun0_A.sl.r_78, kernelRun0_A.sl.r_77, kernelRun0_A.sl.r_91, kernelRun0_A.sl.r_88, kernelRun0_A.sl.r_90, kernelRun0_A.sl.r_89, kernelRun0_A.sl.r_95, kernelRun0_A.sl.r_94, kernelRun0_A.sl.r_93, kernelRun0_A.sl.r_92, kernelRun0_A.sl.r_87, View.readCov_cons_toLoadRect]
  simp only [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, shapeCast_shapeCast]
  exact row_box i 3 arg5 harg5 x3 arg34 harg34 x32

set_option maxHeartbeats 2000000 in
/-- The row the body computes for box 4 of its group. -/
theorem row_4 : kernelRun0_A.sl.r_126 c i arg2 harg2 arg3 harg3 arg4 harg4 arg5 harg5 arg6 harg6 arg34 harg34 arg36 x0 x1 x2 x3 x4 x32 = boxRow i 4 x4 x32 := by
  simp only [kernelRun0_A.sl.r_126, kernelRun0_A.sl.r_121, kernelRun0_A.sl.r_116, kernelRun0_A.sl.r_114, kernelRun0_A.sl.v884, kernelRun0_A.sl.HS0_5, kernelRun0_A.sl.r_110, kernelRun0_A.sl.v827, kernelRun0_A.sl.r_99, kernelRun0_A.sl.r_109, kernelRun0_A.sl.v825, kernelRun0_A.sl.r_98, kernelRun0_A.sl.r_108, kernelRun0_A.sl.v823, kernelRun0_A.sl.r_97, kernelRun0_A.sl.r_107, kernelRun0_A.sl.v829, kernelRun0_A.sl.r_101, kernelRun0_A.sl.r_106, kernelRun0_A.sl.r_105, kernelRun0_A.sl.r_113, kernelRun0_A.sl.r_112, kernelRun0_A.sl.r_104, kernelRun0_A.sl.r_103, kernelRun0_A.sl.r_102, kernelRun0_A.sl.v378, kernelRun0_A.sl.r_120, kernelRun0_A.sl.r_111, kernelRun0_A.sl.r_119, kernelRun0_A.sl.r_117, kernelRun0_A.sl.r_115, kernelRun0_A.sl.r_118, View.readCov_cons_toLoadRect]
  simp only [k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, shapeCast_shapeCast]
  exact row_box i 4 arg6 harg6 x4 arg34 harg34 x32

set_option maxHeartbeats 2000000 in
/-- The row the body computes for box 5 of its group. -/
theorem row_5 : kernelRun0_A.sl.r_149 c i arg2 harg2 arg3 harg3 arg4 harg4 arg5 harg5 arg6 harg6 arg7 harg7 arg34 harg34 arg36 x0 x1 x2 x3 x4 x5 x32 = boxRow i 5 x5 x32 := by
  simp only [kernelRun0_A.sl.r_149, kernelRun0_A.sl.r_144, kernelRun0_A.sl.r_132, kernelRun0_A.sl.r_131, kernelRun0_A.sl.v1031, kernelRun0_A.sl.v1029, kernelRun0_A.sl.r_128, kernelRun0_A.sl.v1027, kernelRun0_A.sl.r_127, kernelRun0_A.sl.v1025, kernelRun0_A.sl.r_125, kernelRun0_A.sl.r_124, kernelRun0_A.sl.r_123, kernelRun0_A.sl.r_122, kernelRun0_A.sl.r_143, kernelRun0_A.sl.v1086, kernelRun0_A.sl.HS0_6, kernelRun0_A.sl.r_142, kernelRun0_A.sl.r_134, kernelRun0_A.sl.r_141, kernelRun0_A.sl.r_140, kernelRun0_A.sl.r_133, kernelRun0_A.sl.r_139, kernelRun0_A.sl.r_137, kernelRun0_A.sl.r_136, kernelRun0_A.sl.r_135, kernelRun0_A.sl.r_130, kernelRun0_A.sl.r_129, kernelRun0_A.sl.r_138, View.readCov_cons_toLoadRect]
  simp only [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, shapeCast_shapeCast]
  exact row_box i 5 arg7 harg7 x5 arg34 harg34 x32

set_option maxHeartbeats 2000000 in
/-- The row the body computes for box 6 of its group. -/
theorem row_6 : kernelRun0_A.sl.r_173 c i arg2 harg2 arg3 harg3 arg4 harg4 arg5 harg5 arg6 harg6 arg7 harg7 arg8 harg8 arg34 harg34 arg36 x0 x1 x2 x3 x4 x5 x6 x32 = boxRow i 6 x6 x32 := by
  simp only [kernelRun0_A.sl.r_173, kernelRun0_A.sl.r_169, kernelRun0_A.sl.v1288, kernelRun0_A.sl.HS0_7, kernelRun0_A.sl.r_159, kernelRun0_A.sl.r_148, kernelRun0_A.sl.r_158, kernelRun0_A.sl.v1231, kernelRun0_A.sl.r_147, kernelRun0_A.sl.r_157, kernelRun0_A.sl.v1229, kernelRun0_A.sl.r_146, kernelRun0_A.sl.r_156, kernelRun0_A.sl.v1227, kernelRun0_A.sl.r_145, kernelRun0_A.sl.r_155, kernelRun0_A.sl.r_154, kernelRun0_A.sl.v1233, kernelRun0_A.sl.r_153, kernelRun0_A.sl.r_152, kernelRun0_A.sl.r_151, kernelRun0_A.sl.r_150, kernelRun0_A.sl.r_164, kernelRun0_A.sl.r_161, kernelRun0_A.sl.r_163, kernelRun0_A.sl.r_162, kernelRun0_A.sl.r_168, kernelRun0_A.sl.r_167, kernelRun0_A.sl.r_166, kernelRun0_A.sl.r_165, kernelRun0_A.sl.r_160, View.readCov_cons_toLoadRect]
  simp only [k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, shapeCast_shapeCast]
  exact row_box i 6 arg8 harg8 x6 arg34 harg34 x32

set_option maxHeartbeats 2000000 in
/-- The row the body computes for box 7 of its group. -/
theorem row_7 : kernelRun0_A.sl.r_199 c i arg2 harg2 arg3 harg3 arg4 harg4 arg5 harg5 arg6 harg6 arg7 harg7 arg8 harg8 arg9 harg9 arg34 harg34 arg36 x0 x1 x2 x3 x4 x5 x6 x7 x32 = boxRow i 7 x7 x32 := by
  simp only [kernelRun0_A.sl.r_199, kernelRun0_A.sl.r_194, kernelRun0_A.sl.r_189, kernelRun0_A.sl.r_187, kernelRun0_A.sl.v1490, kernelRun0_A.sl.HS0_8, kernelRun0_A.sl.r_183, kernelRun0_A.sl.v1433, kernelRun0_A.sl.r_172, kernelRun0_A.sl.r_182, kernelRun0_A.sl.v1431, kernelRun0_A.sl.r_171, kernelRun0_A.sl.r_181, kernelRun0_A.sl.v1429, kernelRun0_A.sl.r_170, kernelRun0_A.sl.r_180, kernelRun0_A.sl.v1435, kernelRun0_A.sl.r_174, kernelRun0_A.sl.r_179, kernelRun0_A.sl.r_178, kernelRun0_A.sl.r_186, kernelRun0_A.sl.r_185, kernelRun0_A.sl.r_177, kernelRun0_A.sl.r_176, kernelRun0_A.sl.r_175, kernelRun0_A.sl.v378, kernelRun0_A.sl.r_193, kernelRun0_A.sl.r_184, kernelRun0_A.sl.r_192, kernelRun0_A.sl.r_190, kernelRun0_A.sl.r_188, kernelRun0_A.sl.r_191, View.readCov_cons_toLoadRect]
  simp only [k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, shapeCast_shapeCast]
  exact row_box i 7 arg9 harg9 x7 arg34 harg34 x32

set_option maxHeartbeats 2000000 in
/-- The row the body computes for box 8 of its group. -/
theorem row_8 : kernelRun0_A.sl.r_222 c i arg2 harg2 arg3 harg3 arg4 harg4 arg5 harg5 arg6 harg6 arg7 harg7 arg8 harg8 arg9 harg9 arg10 harg10 arg34 harg34 arg36 x0 x1 x2 x3 x4 x5 x6 x7 x8 x32 = boxRow i 8 x8 x32 := by
  simp only [kernelRun0_A.sl.r_222, kernelRun0_A.sl.r_217, kernelRun0_A.sl.r_205, kernelRun0_A.sl.r_204, kernelRun0_A.sl.v1637, kernelRun0_A.sl.v1635, kernelRun0_A.sl.r_201, kernelRun0_A.sl.v1633, kernelRun0_A.sl.r_200, kernelRun0_A.sl.v1631, kernelRun0_A.sl.r_198, kernelRun0_A.sl.r_197, kernelRun0_A.sl.r_196, kernelRun0_A.sl.r_195, kernelRun0_A.sl.r_216, kernelRun0_A.sl.v1692, kernelRun0_A.sl.HS0_9, kernelRun0_A.sl.r_215, kernelRun0_A.sl.r_207, kernelRun0_A.sl.r_214, kernelRun0_A.sl.r_213, kernelRun0_A.sl.r_206, kernelRun0_A.sl.r_212, kernelRun0_A.sl.r_210, kernelRun0_A.sl.r_209, kernelRun0_A.sl.r_208, kernelRun0_A.sl.r_203, kernelRun0_A.sl.r_202, kernelRun0_A.sl.r_211, View.readCov_cons_toLoadRect]
  simp only [k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, shapeCast_shapeCast]
  exact row_box i 8 arg10 harg10 x8 arg34 harg34 x32

set_option maxHeartbeats 2000000 in
/-- The row the body computes for box 9 of its group. -/
theorem row_9 : kernelRun0_A.sl.r_246 c i arg2 harg2 arg3 harg3 arg4 harg4 arg5 harg5 arg6 harg6 arg7 harg7 arg8 harg8 arg9 harg9 arg10 harg10 arg11 harg11 arg34 harg34 arg36 x0 x1 x2 x3 x4 x5 x6 x7 x8 x9 x32 = boxRow i 9 x9 x32 := by
  simp only [kernelRun0_A.sl.r_246, kernelRun0_A.sl.r_242, kernelRun0_A.sl.v1894, kernelRun0_A.sl.HS0_10, kernelRun0_A.sl.r_232, kernelRun0_A.sl.r_221, kernelRun0_A.sl.r_231, kernelRun0_A.sl.v1837, kernelRun0_A.sl.r_220, kernelRun0_A.sl.r_230, kernelRun0_A.sl.v1835, kernelRun0_A.sl.r_219, kernelRun0_A.sl.r_229, kernelRun0_A.sl.v1833, kernelRun0_A.sl.r_218, kernelRun0_A.sl.r_228, kernelRun0_A.sl.r_227, kernelRun0_A.sl.v1839, kernelRun0_A.sl.r_226, kernelRun0_A.sl.r_225, kernelRun0_A.sl.r_224, kernelRun0_A.sl.r_223, kernelRun0_A.sl.r_237, kernelRun0_A.sl.r_234, kernelRun0_A.sl.r_236, kernelRun0_A.sl.r_235, kernelRun0_A.sl.r_241, kernelRun0_A.sl.r_240, kernelRun0_A.sl.r_239, kernelRun0_A.sl.r_238, kernelRun0_A.sl.r_233, View.readCov_cons_toLoadRect]
  simp only [k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, shapeCast_shapeCast]
  exact row_box i 9 arg11 harg11 x9 arg34 harg34 x32

set_option maxHeartbeats 2000000 in
/-- The row the body computes for box 10 of its group. -/
theorem row_10 : kernelRun0_A.sl.r_272 c i arg2 harg2 arg3 harg3 arg4 harg4 arg5 harg5 arg6 harg6 arg7 harg7 arg8 harg8 arg9 harg9 arg10 harg10 arg11 harg11 arg12 harg12 arg34 harg34 arg36 x0 x1 x2 x3 x4 x5 x6 x7 x8 x9 x10 x32 = boxRow i 10 x10 x32 := by
  simp only [kernelRun0_A.sl.r_272, kernelRun0_A.sl.r_267, kernelRun0_A.sl.r_262, kernelRun0_A.sl.r_260, kernelRun0_A.sl.v2096, kernelRun0_A.sl.HS0_11, kernelRun0_A.sl.r_256, kernelRun0_A.sl.v2039, kernelRun0_A.sl.r_245, kernelRun0_A.sl.r_255, kernelRun0_A.sl.v2037, kernelRun0_A.sl.r_244, kernelRun0_A.sl.r_254, kernelRun0_A.sl.v2035, kernelRun0_A.sl.r_243, kernelRun0_A.sl.r_253, kernelRun0_A.sl.v2041, kernelRun0_A.sl.r_247, kernelRun0_A.sl.r_252, kernelRun0_A.sl.r_251, kernelRun0_A.sl.r_259, kernelRun0_A.sl.r_258, kernelRun0_A.sl.r_250, kernelRun0_A.sl.r_249, kernelRun0_A.sl.r_248, kernelRun0_A.sl.v378, kernelRun0_A.sl.r_266, kernelRun0_A.sl.r_257, kernelRun0_A.sl.r_265, kernelRun0_A.sl.r_263, kernelRun0_A.sl.r_261, kernelRun0_A.sl.r_264, View.readCov_cons_toLoadRect]
  simp only [k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, shapeCast_shapeCast]
  exact row_box i 10 arg12 harg12 x10 arg34 harg34 x32

set_option maxHeartbeats 2000000 in
/-- The row the body computes for box 11 of its group. -/
theorem row_11 : kernelRun0_A.sl.r_295 c i arg2 harg2 arg3 harg3 arg4 harg4 arg5 harg5 arg6 harg6 arg7 harg7 arg8 harg8 arg9 harg9 arg10 harg10 arg11 harg11 arg12 harg12 arg13 harg13 arg34 harg34 arg36 x0 x1 x2 x3 x4 x5 x6 x7 x8 x9 x10 x11 x32 = boxRow i 11 x11 x32 := by
  simp only [kernelRun0_A.sl.r_295, kernelRun0_A.sl.r_290, kernelRun0_A.sl.r_278, kernelRun0_A.sl.r_277, kernelRun0_A.sl.v2243, kernelRun0_A.sl.v2241, kernelRun0_A.sl.r_274, kernelRun0_A.sl.v2239, kernelRun0_A.sl.r_273, kernelRun0_A.sl.v2237, kernelRun0_A.sl.r_271, kernelRun0_A.sl.r_270, kernelRun0_A.sl.r_269, kernelRun0_A.sl.r_268, kernelRun0_A.sl.r_289, kernelRun0_A.sl.v2298, kernelRun0_A.sl.HS0_12, kernelRun0_A.sl.r_288, kernelRun0_A.sl.r_280, kernelRun0_A.sl.r_287, kernelRun0_A.sl.r_286, kernelRun0_A.sl.r_279, kernelRun0_A.sl.r_285, kernelRun0_A.sl.r_283, kernelRun0_A.sl.r_282, kernelRun0_A.sl.r_281, kernelRun0_A.sl.r_276, kernelRun0_A.sl.r_275, kernelRun0_A.sl.r_284, View.readCov_cons_toLoadRect]
  simp only [k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, shapeCast_shapeCast]
  exact row_box i 11 arg13 harg13 x11 arg34 harg34 x32

set_option maxHeartbeats 2000000 in
/-- The row the body computes for box 12 of its group. -/
theorem row_12 : kernelRun0_A.sl.r_319 c i arg2 harg2 arg3 harg3 arg4 harg4 arg5 harg5 arg6 harg6 arg7 harg7 arg8 harg8 arg9 harg9 arg10 harg10 arg11 harg11 arg12 harg12 arg13 harg13 arg14 harg14 arg34 harg34 arg36 x0 x1 x2 x3 x4 x5 x6 x7 x8 x9 x10 x11 x12 x32 = boxRow i 12 x12 x32 := by
  simp only [kernelRun0_A.sl.r_319, kernelRun0_A.sl.r_315, kernelRun0_A.sl.v2500, kernelRun0_A.sl.HS0_13, kernelRun0_A.sl.r_305, kernelRun0_A.sl.r_294, kernelRun0_A.sl.r_304, kernelRun0_A.sl.v2443, kernelRun0_A.sl.r_293, kernelRun0_A.sl.r_303, kernelRun0_A.sl.v2441, kernelRun0_A.sl.r_292, kernelRun0_A.sl.r_302, kernelRun0_A.sl.v2439, kernelRun0_A.sl.r_291, kernelRun0_A.sl.r_301, kernelRun0_A.sl.r_300, kernelRun0_A.sl.v2445, kernelRun0_A.sl.r_299, kernelRun0_A.sl.r_298, kernelRun0_A.sl.r_297, kernelRun0_A.sl.r_296, kernelRun0_A.sl.r_310, kernelRun0_A.sl.r_307, kernelRun0_A.sl.r_309, kernelRun0_A.sl.r_308, kernelRun0_A.sl.r_314, kernelRun0_A.sl.r_313, kernelRun0_A.sl.r_312, kernelRun0_A.sl.r_311, kernelRun0_A.sl.r_306, View.readCov_cons_toLoadRect]
  simp only [k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, shapeCast_shapeCast]
  exact row_box i 12 arg14 harg14 x12 arg34 harg34 x32

set_option maxHeartbeats 2000000 in
/-- The row the body computes for box 13 of its group. -/
theorem row_13 : kernelRun0_A.sl.r_345 c i arg2 harg2 arg3 harg3 arg4 harg4 arg5 harg5 arg6 harg6 arg7 harg7 arg8 harg8 arg9 harg9 arg10 harg10 arg11 harg11 arg12 harg12 arg13 harg13 arg14 harg14 arg15 harg15 arg34 harg34 arg36 x0 x1 x2 x3 x4 x5 x6 x7 x8 x9 x10 x11 x12 x13 x32 = boxRow i 13 x13 x32 := by
  simp only [kernelRun0_A.sl.r_345, kernelRun0_A.sl.r_340, kernelRun0_A.sl.r_335, kernelRun0_A.sl.r_333, kernelRun0_A.sl.v2702, kernelRun0_A.sl.HS0_14, kernelRun0_A.sl.r_329, kernelRun0_A.sl.v2645, kernelRun0_A.sl.r_318, kernelRun0_A.sl.r_328, kernelRun0_A.sl.v2643, kernelRun0_A.sl.r_317, kernelRun0_A.sl.r_327, kernelRun0_A.sl.v2641, kernelRun0_A.sl.r_316, kernelRun0_A.sl.r_326, kernelRun0_A.sl.v2647, kernelRun0_A.sl.r_320, kernelRun0_A.sl.r_325, kernelRun0_A.sl.r_324, kernelRun0_A.sl.r_332, kernelRun0_A.sl.r_331, kernelRun0_A.sl.r_323, kernelRun0_A.sl.r_322, kernelRun0_A.sl.r_321, kernelRun0_A.sl.v378, kernelRun0_A.sl.r_339, kernelRun0_A.sl.r_330, kernelRun0_A.sl.r_338, kernelRun0_A.sl.r_336, kernelRun0_A.sl.r_334, kernelRun0_A.sl.r_337, View.readCov_cons_toLoadRect]
  simp only [k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, shapeCast_shapeCast]
  exact row_box i 13 arg15 harg15 x13 arg34 harg34 x32

set_option maxHeartbeats 2000000 in
/-- The row the body computes for box 14 of its group. -/
theorem row_14 : kernelRun0_A.sl.r_368 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg34 harg34 arg36 x0 x1 x2 x3 x4 x5 x6 x7 x8 x9 x10 x11 x12 x13 x14 x32 = boxRow i 14 x14 x32 := by
  simp only [kernelRun0_A.sl.r_368, kernelRun0_A.sl.r_363, kernelRun0_A.sl.r_351, kernelRun0_A.sl.r_350, kernelRun0_A.sl.v2849, kernelRun0_A.sl.v2847, kernelRun0_A.sl.r_347, kernelRun0_A.sl.v2845, kernelRun0_A.sl.r_346, kernelRun0_A.sl.v2843, kernelRun0_A.sl.r_344, kernelRun0_A.sl.r_343, kernelRun0_A.sl.r_342, kernelRun0_A.sl.r_341, kernelRun0_A.sl.r_362, kernelRun0_A.sl.v2904, kernelRun0_A.sl.HS0_15, kernelRun0_A.sl.r_361, kernelRun0_A.sl.r_353, kernelRun0_A.sl.r_360, kernelRun0_A.sl.r_359, kernelRun0_A.sl.r_352, kernelRun0_A.sl.r_358, kernelRun0_A.sl.r_356, kernelRun0_A.sl.r_355, kernelRun0_A.sl.r_354, kernelRun0_A.sl.r_349, kernelRun0_A.sl.r_348, kernelRun0_A.sl.r_357, View.readCov_cons_toLoadRect]
  simp only [k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, shapeCast_shapeCast]
  exact row_box i 14 arg16 harg16 x14 arg34 harg34 x32

set_option maxHeartbeats 2000000 in
/-- The row the body computes for box 15 of its group. -/
theorem row_15 : kernelRun0_A.sl.r_392 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg34 harg34 arg36 x0 x1 x2 x3 x4 x5 x6 x7 x8 x9 x10 x11 x12 x13 x14 x15 x32 = boxRow i 15 x15 x32 := by
  simp only [kernelRun0_A.sl.r_392, kernelRun0_A.sl.r_388, kernelRun0_A.sl.v3106, kernelRun0_A.sl.HS0_16, kernelRun0_A.sl.r_378, kernelRun0_A.sl.r_367, kernelRun0_A.sl.r_377, kernelRun0_A.sl.v3049, kernelRun0_A.sl.r_366, kernelRun0_A.sl.r_376, kernelRun0_A.sl.v3047, kernelRun0_A.sl.r_365, kernelRun0_A.sl.r_375, kernelRun0_A.sl.v3045, kernelRun0_A.sl.r_364, kernelRun0_A.sl.r_374, kernelRun0_A.sl.r_373, kernelRun0_A.sl.v3051, kernelRun0_A.sl.r_372, kernelRun0_A.sl.r_371, kernelRun0_A.sl.r_370, kernelRun0_A.sl.r_369, kernelRun0_A.sl.r_383, kernelRun0_A.sl.r_380, kernelRun0_A.sl.r_382, kernelRun0_A.sl.r_381, kernelRun0_A.sl.r_387, kernelRun0_A.sl.r_386, kernelRun0_A.sl.r_385, kernelRun0_A.sl.r_384, kernelRun0_A.sl.r_379, View.readCov_cons_toLoadRect]
  simp only [k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, shapeCast_shapeCast]
  exact row_box i 15 arg17 harg17 x15 arg34 harg34 x32

set_option maxHeartbeats 2000000 in
/-- The row the body computes for box 16 of its group. -/
theorem row_16 : kernelRun0_A.sl.r_418 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg34 harg34 arg36 x0 x1 x2 x3 x4 x5 x6 x7 x8 x9 x10 x11 x12 x13 x14 x15 x16 x32 = boxRow i 16 x16 x32 := by
  simp only [kernelRun0_A.sl.r_418, kernelRun0_A.sl.r_413, kernelRun0_A.sl.r_408, kernelRun0_A.sl.r_406, kernelRun0_A.sl.v3308, kernelRun0_A.sl.HS0_17, kernelRun0_A.sl.r_402, kernelRun0_A.sl.v3251, kernelRun0_A.sl.r_391, kernelRun0_A.sl.r_401, kernelRun0_A.sl.v3249, kernelRun0_A.sl.r_390, kernelRun0_A.sl.r_400, kernelRun0_A.sl.v3247, kernelRun0_A.sl.r_389, kernelRun0_A.sl.r_399, kernelRun0_A.sl.v3253, kernelRun0_A.sl.r_393, kernelRun0_A.sl.r_398, kernelRun0_A.sl.r_397, kernelRun0_A.sl.r_405, kernelRun0_A.sl.r_404, kernelRun0_A.sl.r_396, kernelRun0_A.sl.r_395, kernelRun0_A.sl.r_394, kernelRun0_A.sl.v378, kernelRun0_A.sl.r_412, kernelRun0_A.sl.r_403, kernelRun0_A.sl.r_411, kernelRun0_A.sl.r_409, kernelRun0_A.sl.r_407, kernelRun0_A.sl.r_410, View.readCov_cons_toLoadRect]
  simp only [k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, shapeCast_shapeCast]
  exact row_box i 16 arg18 harg18 x16 arg34 harg34 x32

set_option maxHeartbeats 2000000 in
/-- The row the body computes for box 17 of its group. -/
theorem row_17 : kernelRun0_A.sl.r_441 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg34 harg34 arg36 x0 x1 x2 x3 x4 x5 x6 x7 x8 x9 x10 x11 x12 x13 x14 x15 x16 x17 x32 = boxRow i 17 x17 x32 := by
  simp only [kernelRun0_A.sl.r_441, kernelRun0_A.sl.r_436, kernelRun0_A.sl.r_424, kernelRun0_A.sl.r_423, kernelRun0_A.sl.v3455, kernelRun0_A.sl.v3453, kernelRun0_A.sl.r_420, kernelRun0_A.sl.v3451, kernelRun0_A.sl.r_419, kernelRun0_A.sl.v3449, kernelRun0_A.sl.r_417, kernelRun0_A.sl.r_416, kernelRun0_A.sl.r_415, kernelRun0_A.sl.r_414, kernelRun0_A.sl.r_435, kernelRun0_A.sl.v3510, kernelRun0_A.sl.HS0_18, kernelRun0_A.sl.r_434, kernelRun0_A.sl.r_426, kernelRun0_A.sl.r_433, kernelRun0_A.sl.r_432, kernelRun0_A.sl.r_425, kernelRun0_A.sl.r_431, kernelRun0_A.sl.r_429, kernelRun0_A.sl.r_428, kernelRun0_A.sl.r_427, kernelRun0_A.sl.r_422, kernelRun0_A.sl.r_421, kernelRun0_A.sl.r_430, View.readCov_cons_toLoadRect]
  simp only [k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, shapeCast_shapeCast]
  exact row_box i 17 arg19 harg19 x17 arg34 harg34 x32

set_option maxHeartbeats 2000000 in
/-- The row the body computes for box 18 of its group. -/
theorem row_18 : kernelRun0_A.sl.r_465 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg34 harg34 arg36 x0 x1 x2 x3 x4 x5 x6 x7 x8 x9 x10 x11 x12 x13 x14 x15 x16 x17 x18 x32 = boxRow i 18 x18 x32 := by
  simp only [kernelRun0_A.sl.r_465, kernelRun0_A.sl.r_461, kernelRun0_A.sl.v3712, kernelRun0_A.sl.HS0_19, kernelRun0_A.sl.r_451, kernelRun0_A.sl.r_440, kernelRun0_A.sl.r_450, kernelRun0_A.sl.v3655, kernelRun0_A.sl.r_439, kernelRun0_A.sl.r_449, kernelRun0_A.sl.v3653, kernelRun0_A.sl.r_438, kernelRun0_A.sl.r_448, kernelRun0_A.sl.v3651, kernelRun0_A.sl.r_437, kernelRun0_A.sl.r_447, kernelRun0_A.sl.r_446, kernelRun0_A.sl.v3657, kernelRun0_A.sl.r_445, kernelRun0_A.sl.r_444, kernelRun0_A.sl.r_443, kernelRun0_A.sl.r_442, kernelRun0_A.sl.r_456, kernelRun0_A.sl.r_453, kernelRun0_A.sl.r_455, kernelRun0_A.sl.r_454, kernelRun0_A.sl.r_460, kernelRun0_A.sl.r_459, kernelRun0_A.sl.r_458, kernelRun0_A.sl.r_457, kernelRun0_A.sl.r_452, View.readCov_cons_toLoadRect]
  simp only [k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, shapeCast_shapeCast]
  exact row_box i 18 arg20 harg20 x18 arg34 harg34 x32

set_option maxHeartbeats 2000000 in
/-- The row the body computes for box 19 of its group. -/
theorem row_19 : kernelRun0_A.sl.r_491 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg34 harg34 arg36 x0 x1 x2 x3 x4 x5 x6 x7 x8 x9 x10 x11 x12 x13 x14 x15 x16 x17 x18 x19 x32 = boxRow i 19 x19 x32 := by
  simp only [kernelRun0_A.sl.r_491, kernelRun0_A.sl.r_486, kernelRun0_A.sl.r_481, kernelRun0_A.sl.r_479, kernelRun0_A.sl.v3914, kernelRun0_A.sl.HS0_20, kernelRun0_A.sl.r_475, kernelRun0_A.sl.v3857, kernelRun0_A.sl.r_464, kernelRun0_A.sl.r_474, kernelRun0_A.sl.v3855, kernelRun0_A.sl.r_463, kernelRun0_A.sl.r_473, kernelRun0_A.sl.v3853, kernelRun0_A.sl.r_462, kernelRun0_A.sl.r_472, kernelRun0_A.sl.v3859, kernelRun0_A.sl.r_466, kernelRun0_A.sl.r_471, kernelRun0_A.sl.r_470, kernelRun0_A.sl.r_478, kernelRun0_A.sl.r_477, kernelRun0_A.sl.r_469, kernelRun0_A.sl.r_468, kernelRun0_A.sl.r_467, kernelRun0_A.sl.v378, kernelRun0_A.sl.r_485, kernelRun0_A.sl.r_476, kernelRun0_A.sl.r_484, kernelRun0_A.sl.r_482, kernelRun0_A.sl.r_480, kernelRun0_A.sl.r_483, View.readCov_cons_toLoadRect]
  simp only [k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, shapeCast_shapeCast]
  exact row_box i 19 arg21 harg21 x19 arg34 harg34 x32

set_option maxHeartbeats 2000000 in
/-- The row the body computes for box 20 of its group. -/
theorem row_20 : kernelRun0_A.sl.r_514 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg34 harg34 arg36 x0 x1 x2 x3 x4 x5 x6 x7 x8 x9 x10 x11 x12 x13 x14 x15 x16 x17 x18 x19 x20 x32 = boxRow i 20 x20 x32 := by
  simp only [kernelRun0_A.sl.r_514, kernelRun0_A.sl.r_509, kernelRun0_A.sl.r_497, kernelRun0_A.sl.r_496, kernelRun0_A.sl.v4061, kernelRun0_A.sl.v4059, kernelRun0_A.sl.r_493, kernelRun0_A.sl.v4057, kernelRun0_A.sl.r_492, kernelRun0_A.sl.v4055, kernelRun0_A.sl.r_490, kernelRun0_A.sl.r_489, kernelRun0_A.sl.r_488, kernelRun0_A.sl.r_487, kernelRun0_A.sl.r_508, kernelRun0_A.sl.v4116, kernelRun0_A.sl.HS0_21, kernelRun0_A.sl.r_507, kernelRun0_A.sl.r_499, kernelRun0_A.sl.r_506, kernelRun0_A.sl.r_505, kernelRun0_A.sl.r_498, kernelRun0_A.sl.r_504, kernelRun0_A.sl.r_502, kernelRun0_A.sl.r_501, kernelRun0_A.sl.r_500, kernelRun0_A.sl.r_495, kernelRun0_A.sl.r_494, kernelRun0_A.sl.r_503, View.readCov_cons_toLoadRect]
  simp only [k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, shapeCast_shapeCast]
  exact row_box i 20 arg22 harg22 x20 arg34 harg34 x32

set_option maxHeartbeats 2000000 in
/-- The row the body computes for box 21 of its group. -/
theorem row_21 : kernelRun0_A.sl.r_538 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg34 harg34 arg36 x0 x1 x2 x3 x4 x5 x6 x7 x8 x9 x10 x11 x12 x13 x14 x15 x16 x17 x18 x19 x20 x21 x32 = boxRow i 21 x21 x32 := by
  simp only [kernelRun0_A.sl.r_538, kernelRun0_A.sl.r_534, kernelRun0_A.sl.v4318, kernelRun0_A.sl.HS0_22, kernelRun0_A.sl.r_524, kernelRun0_A.sl.r_513, kernelRun0_A.sl.r_523, kernelRun0_A.sl.v4261, kernelRun0_A.sl.r_512, kernelRun0_A.sl.r_522, kernelRun0_A.sl.v4259, kernelRun0_A.sl.r_511, kernelRun0_A.sl.r_521, kernelRun0_A.sl.v4257, kernelRun0_A.sl.r_510, kernelRun0_A.sl.r_520, kernelRun0_A.sl.r_519, kernelRun0_A.sl.v4263, kernelRun0_A.sl.r_518, kernelRun0_A.sl.r_517, kernelRun0_A.sl.r_516, kernelRun0_A.sl.r_515, kernelRun0_A.sl.r_529, kernelRun0_A.sl.r_526, kernelRun0_A.sl.r_528, kernelRun0_A.sl.r_527, kernelRun0_A.sl.r_533, kernelRun0_A.sl.r_532, kernelRun0_A.sl.r_531, kernelRun0_A.sl.r_530, kernelRun0_A.sl.r_525, View.readCov_cons_toLoadRect]
  simp only [k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, shapeCast_shapeCast]
  exact row_box i 21 arg23 harg23 x21 arg34 harg34 x32

set_option maxHeartbeats 2000000 in
/-- The row the body computes for box 22 of its group. -/
theorem row_22 : kernelRun0_A.sl.r_564 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg34 harg34 arg36 x0 x1 x2 x3 x4 x5 x6 x7 x8 x9 x10 x11 x12 x13 x14 x15 x16 x17 x18 x19 x20 x21 x22 x32 = boxRow i 22 x22 x32 := by
  simp only [kernelRun0_A.sl.r_564, kernelRun0_A.sl.r_559, kernelRun0_A.sl.r_554, kernelRun0_A.sl.r_552, kernelRun0_A.sl.v4520, kernelRun0_A.sl.HS0_23, kernelRun0_A.sl.r_548, kernelRun0_A.sl.v4463, kernelRun0_A.sl.r_537, kernelRun0_A.sl.r_547, kernelRun0_A.sl.v4461, kernelRun0_A.sl.r_536, kernelRun0_A.sl.r_546, kernelRun0_A.sl.v4459, kernelRun0_A.sl.r_535, kernelRun0_A.sl.r_545, kernelRun0_A.sl.v4465, kernelRun0_A.sl.r_539, kernelRun0_A.sl.r_544, kernelRun0_A.sl.r_543, kernelRun0_A.sl.r_551, kernelRun0_A.sl.r_550, kernelRun0_A.sl.r_542, kernelRun0_A.sl.r_541, kernelRun0_A.sl.r_540, kernelRun0_A.sl.v378, kernelRun0_A.sl.r_558, kernelRun0_A.sl.r_549, kernelRun0_A.sl.r_557, kernelRun0_A.sl.r_555, kernelRun0_A.sl.r_553, kernelRun0_A.sl.r_556, View.readCov_cons_toLoadRect]
  simp only [k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, shapeCast_shapeCast]
  exact row_box i 22 arg24 harg24 x22 arg34 harg34 x32

set_option maxHeartbeats 2000000 in
/-- The row the body computes for box 23 of its group. -/
theorem row_23 : kernelRun0_A.sl.r_587 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg34 harg34 arg36 x0 x1 x2 x3 x4 x5 x6 x7 x8 x9 x10 x11 x12 x13 x14 x15 x16 x17 x18 x19 x20 x21 x22 x23 x32 = boxRow i 23 x23 x32 := by
  simp only [kernelRun0_A.sl.r_587, kernelRun0_A.sl.r_582, kernelRun0_A.sl.r_570, kernelRun0_A.sl.r_569, kernelRun0_A.sl.v4667, kernelRun0_A.sl.v4665, kernelRun0_A.sl.r_566, kernelRun0_A.sl.v4663, kernelRun0_A.sl.r_565, kernelRun0_A.sl.v4661, kernelRun0_A.sl.r_563, kernelRun0_A.sl.r_562, kernelRun0_A.sl.r_561, kernelRun0_A.sl.r_560, kernelRun0_A.sl.r_581, kernelRun0_A.sl.v4722, kernelRun0_A.sl.HS0_24, kernelRun0_A.sl.r_580, kernelRun0_A.sl.r_572, kernelRun0_A.sl.r_579, kernelRun0_A.sl.r_578, kernelRun0_A.sl.r_571, kernelRun0_A.sl.r_577, kernelRun0_A.sl.r_575, kernelRun0_A.sl.r_574, kernelRun0_A.sl.r_573, kernelRun0_A.sl.r_568, kernelRun0_A.sl.r_567, kernelRun0_A.sl.r_576, View.readCov_cons_toLoadRect]
  simp only [k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, shapeCast_shapeCast]
  exact row_box i 23 arg25 harg25 x23 arg34 harg34 x32

set_option maxHeartbeats 2000000 in
/-- The row the body computes for box 24 of its group. -/
theorem row_24 : kernelRun0_A.sl.r_611 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg34 harg34 arg36 x0 x1 x2 x3 x4 x5 x6 x7 x8 x9 x10 x11 x12 x13 x14 x15 x16 x17 x18 x19 x20 x21 x22 x23 x24 x32 = boxRow i 24 x24 x32 := by
  simp only [kernelRun0_A.sl.r_611, kernelRun0_A.sl.r_607, kernelRun0_A.sl.v4924, kernelRun0_A.sl.HS0_25, kernelRun0_A.sl.r_597, kernelRun0_A.sl.r_586, kernelRun0_A.sl.r_596, kernelRun0_A.sl.v4867, kernelRun0_A.sl.r_585, kernelRun0_A.sl.r_595, kernelRun0_A.sl.v4865, kernelRun0_A.sl.r_584, kernelRun0_A.sl.r_594, kernelRun0_A.sl.v4863, kernelRun0_A.sl.r_583, kernelRun0_A.sl.r_593, kernelRun0_A.sl.r_592, kernelRun0_A.sl.v4869, kernelRun0_A.sl.r_591, kernelRun0_A.sl.r_590, kernelRun0_A.sl.r_589, kernelRun0_A.sl.r_588, kernelRun0_A.sl.r_602, kernelRun0_A.sl.r_599, kernelRun0_A.sl.r_601, kernelRun0_A.sl.r_600, kernelRun0_A.sl.r_606, kernelRun0_A.sl.r_605, kernelRun0_A.sl.r_604, kernelRun0_A.sl.r_603, kernelRun0_A.sl.r_598, View.readCov_cons_toLoadRect]
  simp only [k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, shapeCast_shapeCast]
  exact row_box i 24 arg26 harg26 x24 arg34 harg34 x32

set_option maxHeartbeats 2000000 in
/-- The row the body computes for box 25 of its group. -/
theorem row_25 : kernelRun0_A.sl.r_637 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg34 harg34 arg36 x0 x1 x2 x3 x4 x5 x6 x7 x8 x9 x10 x11 x12 x13 x14 x15 x16 x17 x18 x19 x20 x21 x22 x23 x24 x25 x32 = boxRow i 25 x25 x32 := by
  simp only [kernelRun0_A.sl.r_637, kernelRun0_A.sl.r_632, kernelRun0_A.sl.r_627, kernelRun0_A.sl.r_625, kernelRun0_A.sl.v5126, kernelRun0_A.sl.HS0_26, kernelRun0_A.sl.r_621, kernelRun0_A.sl.v5069, kernelRun0_A.sl.r_610, kernelRun0_A.sl.r_620, kernelRun0_A.sl.v5067, kernelRun0_A.sl.r_609, kernelRun0_A.sl.r_619, kernelRun0_A.sl.v5065, kernelRun0_A.sl.r_608, kernelRun0_A.sl.r_618, kernelRun0_A.sl.v5071, kernelRun0_A.sl.r_612, kernelRun0_A.sl.r_617, kernelRun0_A.sl.r_616, kernelRun0_A.sl.r_624, kernelRun0_A.sl.r_623, kernelRun0_A.sl.r_615, kernelRun0_A.sl.r_614, kernelRun0_A.sl.r_613, kernelRun0_A.sl.v378, kernelRun0_A.sl.r_631, kernelRun0_A.sl.r_622, kernelRun0_A.sl.r_630, kernelRun0_A.sl.r_628, kernelRun0_A.sl.r_626, kernelRun0_A.sl.r_629, View.readCov_cons_toLoadRect]
  simp only [k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, shapeCast_shapeCast]
  exact row_box i 25 arg27 harg27 x25 arg34 harg34 x32

set_option maxHeartbeats 2000000 in
/-- The row the body computes for box 26 of its group. -/
theorem row_26 : kernelRun0_A.sl.r_660 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg34 harg34 arg36 x0 x1 x2 x3 x4 x5 x6 x7 x8 x9 x10 x11 x12 x13 x14 x15 x16 x17 x18 x19 x20 x21 x22 x23 x24 x25 x26 x32 = boxRow i 26 x26 x32 := by
  simp only [kernelRun0_A.sl.r_660, kernelRun0_A.sl.r_655, kernelRun0_A.sl.r_643, kernelRun0_A.sl.r_642, kernelRun0_A.sl.v5273, kernelRun0_A.sl.v5271, kernelRun0_A.sl.r_639, kernelRun0_A.sl.v5269, kernelRun0_A.sl.r_638, kernelRun0_A.sl.v5267, kernelRun0_A.sl.r_636, kernelRun0_A.sl.r_635, kernelRun0_A.sl.r_634, kernelRun0_A.sl.r_633, kernelRun0_A.sl.r_654, kernelRun0_A.sl.v5328, kernelRun0_A.sl.HS0_27, kernelRun0_A.sl.r_653, kernelRun0_A.sl.r_645, kernelRun0_A.sl.r_652, kernelRun0_A.sl.r_651, kernelRun0_A.sl.r_644, kernelRun0_A.sl.r_650, kernelRun0_A.sl.r_648, kernelRun0_A.sl.r_647, kernelRun0_A.sl.r_646, kernelRun0_A.sl.r_641, kernelRun0_A.sl.r_640, kernelRun0_A.sl.r_649, View.readCov_cons_toLoadRect]
  simp only [k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, shapeCast_shapeCast]
  exact row_box i 26 arg28 harg28 x26 arg34 harg34 x32

set_option maxHeartbeats 2000000 in
/-- The row the body computes for box 27 of its group. -/
theorem row_27 : kernelRun0_A.sl.r_684 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg34 harg34 arg36 x0 x1 x2 x3 x4 x5 x6 x7 x8 x9 x10 x11 x12 x13 x14 x15 x16 x17 x18 x19 x20 x21 x22 x23 x24 x25 x26 x27 x32 = boxRow i 27 x27 x32 := by
  simp only [kernelRun0_A.sl.r_684, kernelRun0_A.sl.r_680, kernelRun0_A.sl.v5530, kernelRun0_A.sl.HS0_28, kernelRun0_A.sl.r_670, kernelRun0_A.sl.r_659, kernelRun0_A.sl.r_669, kernelRun0_A.sl.v5473, kernelRun0_A.sl.r_658, kernelRun0_A.sl.r_668, kernelRun0_A.sl.v5471, kernelRun0_A.sl.r_657, kernelRun0_A.sl.r_667, kernelRun0_A.sl.v5469, kernelRun0_A.sl.r_656, kernelRun0_A.sl.r_666, kernelRun0_A.sl.r_665, kernelRun0_A.sl.v5475, kernelRun0_A.sl.r_664, kernelRun0_A.sl.r_663, kernelRun0_A.sl.r_662, kernelRun0_A.sl.r_661, kernelRun0_A.sl.r_675, kernelRun0_A.sl.r_672, kernelRun0_A.sl.r_674, kernelRun0_A.sl.r_673, kernelRun0_A.sl.r_679, kernelRun0_A.sl.r_678, kernelRun0_A.sl.r_677, kernelRun0_A.sl.r_676, kernelRun0_A.sl.r_671, View.readCov_cons_toLoadRect]
  simp only [k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, shapeCast_shapeCast]
  exact row_box i 27 arg29 harg29 x27 arg34 harg34 x32

set_option maxHeartbeats 2000000 in
/-- The row the body computes for box 28 of its group. -/
theorem row_28 : kernelRun0_A.sl.r_710 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg36 x0 x1 x2 x3 x4 x5 x6 x7 x8 x9 x10 x11 x12 x13 x14 x15 x16 x17 x18 x19 x20 x21 x22 x23 x24 x25 x26 x27 x28 x32 = boxRow i 28 x28 x32 := by
  simp only [kernelRun0_A.sl.r_710, kernelRun0_A.sl.r_705, kernelRun0_A.sl.r_700, kernelRun0_A.sl.r_698, kernelRun0_A.sl.v5732, kernelRun0_A.sl.HS0_29, kernelRun0_A.sl.r_694, kernelRun0_A.sl.v5675, kernelRun0_A.sl.r_683, kernelRun0_A.sl.r_693, kernelRun0_A.sl.v5673, kernelRun0_A.sl.r_682, kernelRun0_A.sl.r_692, kernelRun0_A.sl.v5671, kernelRun0_A.sl.r_681, kernelRun0_A.sl.r_691, kernelRun0_A.sl.v5677, kernelRun0_A.sl.r_685, kernelRun0_A.sl.r_690, kernelRun0_A.sl.r_689, kernelRun0_A.sl.r_697, kernelRun0_A.sl.r_696, kernelRun0_A.sl.r_688, kernelRun0_A.sl.r_687, kernelRun0_A.sl.r_686, kernelRun0_A.sl.v378, kernelRun0_A.sl.r_704, kernelRun0_A.sl.r_695, kernelRun0_A.sl.r_703, kernelRun0_A.sl.r_701, kernelRun0_A.sl.r_699, kernelRun0_A.sl.r_702, View.readCov_cons_toLoadRect]
  simp only [k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, shapeCast_shapeCast]
  exact row_box i 28 arg30 harg30 x28 arg34 harg34 x32

set_option maxHeartbeats 2000000 in
/-- The row the body computes for box 29 of its group. -/
theorem row_29 : kernelRun0_A.sl.r_733 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg34 harg34 arg36 x0 x1 x2 x3 x4 x5 x6 x7 x8 x9 x10 x11 x12 x13 x14 x15 x16 x17 x18 x19 x20 x21 x22 x23 x24 x25 x26 x27 x28 x29 x32 = boxRow i 29 x29 x32 := by
  simp only [kernelRun0_A.sl.r_733, kernelRun0_A.sl.r_728, kernelRun0_A.sl.r_716, kernelRun0_A.sl.r_715, kernelRun0_A.sl.v5879, kernelRun0_A.sl.v5877, kernelRun0_A.sl.r_712, kernelRun0_A.sl.v5875, kernelRun0_A.sl.r_711, kernelRun0_A.sl.v5873, kernelRun0_A.sl.r_709, kernelRun0_A.sl.r_708, kernelRun0_A.sl.r_707, kernelRun0_A.sl.r_706, kernelRun0_A.sl.r_727, kernelRun0_A.sl.v5934, kernelRun0_A.sl.HS0_30, kernelRun0_A.sl.r_726, kernelRun0_A.sl.r_718, kernelRun0_A.sl.r_725, kernelRun0_A.sl.r_724, kernelRun0_A.sl.r_717, kernelRun0_A.sl.r_723, kernelRun0_A.sl.r_721, kernelRun0_A.sl.r_720, kernelRun0_A.sl.r_719, kernelRun0_A.sl.r_714, kernelRun0_A.sl.r_713, kernelRun0_A.sl.r_722, View.readCov_cons_toLoadRect]
  simp only [k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, shapeCast_shapeCast]
  exact row_box i 29 arg31 harg31 x29 arg34 harg34 x32

set_option maxHeartbeats 2000000 in
/-- The row the body computes for box 30 of its group. -/
theorem row_30 : kernelRun0_A.sl.r_757 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg34 harg34 arg36 x0 x1 x2 x3 x4 x5 x6 x7 x8 x9 x10 x11 x12 x13 x14 x15 x16 x17 x18 x19 x20 x21 x22 x23 x24 x25 x26 x27 x28 x29 x30 x32 = boxRow i 30 x30 x32 := by
  simp only [kernelRun0_A.sl.r_757, kernelRun0_A.sl.r_753, kernelRun0_A.sl.v6136, kernelRun0_A.sl.HS0_31, kernelRun0_A.sl.r_743, kernelRun0_A.sl.r_732, kernelRun0_A.sl.r_742, kernelRun0_A.sl.v6079, kernelRun0_A.sl.r_731, kernelRun0_A.sl.r_741, kernelRun0_A.sl.v6077, kernelRun0_A.sl.r_730, kernelRun0_A.sl.r_740, kernelRun0_A.sl.v6075, kernelRun0_A.sl.r_729, kernelRun0_A.sl.r_739, kernelRun0_A.sl.r_738, kernelRun0_A.sl.v6081, kernelRun0_A.sl.r_737, kernelRun0_A.sl.r_736, kernelRun0_A.sl.r_735, kernelRun0_A.sl.r_734, kernelRun0_A.sl.r_748, kernelRun0_A.sl.r_745, kernelRun0_A.sl.r_747, kernelRun0_A.sl.r_746, kernelRun0_A.sl.r_752, kernelRun0_A.sl.r_751, kernelRun0_A.sl.r_750, kernelRun0_A.sl.r_749, kernelRun0_A.sl.r_744, View.readCov_cons_toLoadRect]
  simp only [k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831, k0_pay832, k0_pay833, k0_pay834, k0_pay835, k0_pay836, k0_pay837, k0_pay838, k0_pay839, shapeCast_shapeCast]
  exact row_box i 30 arg32 harg32 x30 arg34 harg34 x32

set_option maxHeartbeats 2000000 in
/-- The row the body computes for box 31 of its group. -/
theorem row_31 : k0_pay1 (kernelRun0_A.sl.r_775 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg36 x0 x1 x2 x3 x4 x5 x6 x7 x8 x9 x10 x11 x12 x13 x14 x15 x16 x17 x18 x19 x20 x21 x22 x23 x24 x25 x26 x27 x28 x29 x30 x31 x32) (kernelRun0_A.sl.r_776 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg36 x0 x1 x2 x3 x4 x5 x6 x7 x8 x9 x10 x11 x12 x13 x14 x15 x16 x17 x18 x19 x20 x21 x22 x23 x24 x25 x26 x27 x28 x29 x30 x31 x32) (kernelRun0_A.sl.r_777 c i arg33 harg33 arg34 harg34 x31 x32) kernelRun0_A.sl.v378 (kernelRun0_A.sl.r_778 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg36 x0 x1 x2 x3 x4 x5 x6 x7 x8 x9 x10 x11 x12 x13 x14 x15 x16 x17 x18 x19 x20 x21 x22 x23 x24 x25 x26 x27 x28 x29 x30 x31 x32) k0_pay868 = boxRow i 31 x31 x32 := by
  simp only [kernelRun0_A.sl.r_775, kernelRun0_A.sl.r_774, kernelRun0_A.sl.r_769, kernelRun0_A.sl.v6338, kernelRun0_A.sl.HS0_32, kernelRun0_A.sl.r_767, kernelRun0_A.sl.v6281, kernelRun0_A.sl.r_756, kernelRun0_A.sl.r_766, kernelRun0_A.sl.v6279, kernelRun0_A.sl.r_755, kernelRun0_A.sl.r_765, kernelRun0_A.sl.v6277, kernelRun0_A.sl.r_754, kernelRun0_A.sl.r_764, kernelRun0_A.sl.v6283, kernelRun0_A.sl.r_758, kernelRun0_A.sl.r_763, kernelRun0_A.sl.r_762, kernelRun0_A.sl.r_770, kernelRun0_A.sl.r_776, kernelRun0_A.sl.r_772, kernelRun0_A.sl.r_771, kernelRun0_A.sl.r_777, kernelRun0_A.sl.r_768, kernelRun0_A.sl.v378, kernelRun0_A.sl.r_778, kernelRun0_A.sl.r_773, kernelRun0_A.sl.r_761, kernelRun0_A.sl.r_760, kernelRun0_A.sl.r_759, View.readCov_cons_toLoadRect]
  simp only [k0_pay1, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, shapeCast_shapeCast]
  exact row_box i 31 arg33 harg33 x31 arg34 harg34 x32

end Cert.KernelIdeal.Row

end
-- ==== Proof.Stack.lean ====
module

public import proofs.«01_k».proof.Proof.Rows
public import proofs.«01_k».proof.Proof.RegionKernelIdeal
public import proofs.«01_k».proof.Proof.TableKernelIdeal
public import Idealize.ShloMosaic.Lib.Pipeline.ValueKit
public import Idealize.ShloMosaic.Lib.Pipeline.ReadBack
public import Idealize.ShloMosaic.Lib.Pipeline.Value
public import Idealize.ShloMosaic.Lib.Pointwise

@[expose] public section

set_option maxRecDepth 16384

noncomputable section

namespace Cert.KernelIdeal.Row

open Idealize.ShloMosaic Cert.KernelIdeal.Gen

variable {F : FTy → Type} [FloatOps F]

/-- Thirty-two rows, stacked as the block of the output. -/
def stack (a0 a1 a2 a3 a4 a5 a6 a7 a8 a9 a10 a11 a12 a13 a14 a15 a16 a17 a18 a19 a20 a21 a22 a23 a24 a25 a26 a27 a28 a29 a30 a31 : FVec F S1x128 .f32) : Vec F S1x32x128 .f32 :=
  k0_pay2 (concatenate S32x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, a8⟩, ⟨S1x128, a9⟩, ⟨S1x128, a10⟩, ⟨S1x128, a11⟩, ⟨S1x128, a12⟩, ⟨S1x128, a13⟩, ⟨S1x128, a14⟩, ⟨S1x128, a15⟩, ⟨S1x128, a16⟩, ⟨S1x128, a17⟩, ⟨S1x128, a18⟩, ⟨S1x128, a19⟩, ⟨S1x128, a20⟩, ⟨S1x128, a21⟩, ⟨S1x128, a22⟩, ⟨S1x128, a23⟩, ⟨S1x128, a24⟩, ⟨S1x128, a25⟩, ⟨S1x128, a26⟩, ⟨S1x128, a27⟩, ⟨S1x128, a28⟩, ⟨S1x128, a29⟩, ⟨S1x128, a30⟩, ⟨S1x128, a31⟩]
    concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0)

/-- The block of the output holds the stacked rows. -/
theorem block_apply (x : FVec F S32x128 .f32) (k : Fin 32) (l : Fin 128) : k0_pay2 x (ix3 (0 : Fin 1) k l) = x (ix2 k l) := by
  unfold k0_pay2
  pointwise

/-- Row `k` of the stack is the `k`-th row. -/
theorem stack_apply (r : Fin 32 → FVec F S1x128 .f32) (k : Fin 32) (l : Fin 128) :
    stack (r 0)
      (r 1)
      (r 2)
      (r 3)
      (r 4)
      (r 5)
      (r 6)
      (r 7)
      (r 8)
      (r 9)
      (r 10)
      (r 11)
      (r 12)
      (r 13)
      (r 14)
      (r 15)
      (r 16)
      (r 17)
      (r 18)
      (r 19)
      (r 20)
      (r 21)
      (r 22)
      (r 23)
      (r 24)
      (r 25)
      (r 26)
      (r 27)
      (r 28)
      (r 29)
      (r 30)
      (r 31) (ix3 (0 : Fin 1) k l) = r k (ix2 (0 : Fin 1) l) := by
  have h := concatenate_ofFn_unit_apply (t := S32x128) (s₁ := S1x128) (0 : Fin 2) r
      concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0 rfl rfl (ix2 k l) k rfl (ix2 (0 : Fin 1) l) (fun b hb => by
        match b with
        | 0 => exact absurd rfl hb
        | 1 => rfl)
  refine Eq.trans ?_ h
  exact block_apply _ k l

variable (c : Dev nD) (i : grid0.Coords) (arg2 : Memref sig .tc .vmem S1x1x400x100 .f32) (harg2 : arg2.IsWhole) (arg3 : Memref sig .tc .vmem S1x1x400x100 .f32) (harg3 : arg3.IsWhole) (arg4 : Memref sig .tc .vmem S1x1x400x100 .f32) (harg4 : arg4.IsWhole) (arg5 : Memref sig .tc .vmem S1x1x400x100 .f32) (harg5 : arg5.IsWhole) (arg6 : Memref sig .tc .vmem S1x1x400x100 .f32) (harg6 : arg6.IsWhole) (arg7 : Memref sig .tc .vmem S1x1x400x100 .f32) (harg7 : arg7.IsWhole) (arg8 : Memref sig .tc .vmem S1x1x400x100 .f32) (harg8 : arg8.IsWhole) (arg9 : Memref sig .tc .vmem S1x1x400x100 .f32) (harg9 : arg9.IsWhole) (arg10 : Memref sig .tc .vmem S1x1x400x100 .f32) (harg10 : arg10.IsWhole) (arg11 : Memref sig .tc .vmem S1x1x400x100 .f32) (harg11 : arg11.IsWhole) (arg12 : Memref sig .tc .vmem S1x1x400x100 .f32) (harg12 : arg12.IsWhole) (arg13 : Memref sig .tc .vmem S1x1x400x100 .f32) (harg13 : arg13.IsWhole) (arg14 : Memref sig .tc .vmem S1x1x400x100 .f32) (harg14 : arg14.IsWhole) (arg15 : Memref sig .tc .vmem S1x1x400x100 .f32) (harg15 : arg15.IsWhole) (arg16 : Memref sig .tc .vmem S1x1x400x100 .f32) (harg16 : arg16.IsWhole) (arg17 : Memref sig .tc .vmem S1x1x400x100 .f32) (harg17 : arg17.IsWhole) (arg18 : Memref sig .tc .vmem S1x1x400x100 .f32) (harg18 : arg18.IsWhole) (arg19 : Memref sig .tc .vmem S1x1x400x100 .f32) (harg19 : arg19.IsWhole) (arg20 : Memref sig .tc .vmem S1x1x400x100 .f32) (harg20 : arg20.IsWhole) (arg21 : Memref sig .tc .vmem S1x1x400x100 .f32) (harg21 : arg21.IsWhole) (arg22 : Memref sig .tc .vmem S1x1x400x100 .f32) (harg22 : arg22.IsWhole) (arg23 : Memref sig .tc .vmem S1x1x400x100 .f32) (harg23 : arg23.IsWhole) (arg24 : Memref sig .tc .vmem S1x1x400x100 .f32) (harg24 : arg24.IsWhole) (arg25 : Memref sig .tc .vmem S1x1x400x100 .f32) (harg25 : arg25.IsWhole) (arg26 : Memref sig .tc .vmem S1x1x400x100 .f32) (harg26 : arg26.IsWhole) (arg27 : Memref sig .tc .vmem S1x1x400x100 .f32) (harg27 : arg27.IsWhole) (arg28 : Memref sig .tc .vmem S1x1x400x100 .f32) (harg28 : arg28.IsWhole) (arg29 : Memref sig .tc .vmem S1x1x400x100 .f32) (harg29 : arg29.IsWhole) (arg30 : Memref sig .tc .vmem S1x1x400x100 .f32) (harg30 : arg30.IsWhole) (arg31 : Memref sig .tc .vmem S1x1x400x100 .f32) (harg31 : arg31.IsWhole) (arg32 : Memref sig .tc .vmem S1x1x400x100 .f32) (harg32 : arg32.IsWhole) (arg33 : Memref sig .tc .vmem S1x1x400x100 .f32) (harg33 : arg33.IsWhole) (arg34 : Memref sig .tc .smem S2048 .f32) (harg34 : arg34.IsWhole) (arg36 : Memref sig .tc .vmem S32x100x100 .f32) (harg36 : arg36.IsWhole) (x0 x1 x2 x3 x4 x5 x6 x7 x8 x9 x10 x11 x12 x13 x14 x15 x16 x17 x18 x19 x20 x21 x22 x23 x24 x25 x26 x27 x28 x29 x30 x31 : Vec F S1x1x400x100 .f32) (x32 : Vec F S2048 .f32) (arg35 : Memref sig .tc .vmem S1x32x128 .f32) (harg35 : arg35.IsWhole) (xt0 : TbBuf0 (F := F) c tbM0_0)

set_option maxHeartbeats 4000000 in
/-- What the body stores at a point: the stack of the rows of its boxes. -/
theorem run_stack : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 xt0).1 =
    [⟨Rect.unit (s := S1x32x128) ![0, 0, 0] ![1, 32, 128] inb_S1x32x128_S1x32x128_0_0_0, stack (boxRow i 0 x0 x32)
      (boxRow i 1 x1 x32)
      (boxRow i 2 x2 x32)
      (boxRow i 3 x3 x32)
      (boxRow i 4 x4 x32)
      (boxRow i 5 x5 x32)
      (boxRow i 6 x6 x32)
      (boxRow i 7 x7 x32)
      (boxRow i 8 x8 x32)
      (boxRow i 9 x9 x32)
      (boxRow i 10 x10 x32)
      (boxRow i 11 x11 x32)
      (boxRow i 12 x12 x32)
      (boxRow i 13 x13 x32)
      (boxRow i 14 x14 x32)
      (boxRow i 15 x15 x32)
      (boxRow i 16 x16 x32)
      (boxRow i 17 x17 x32)
      (boxRow i 18 x18 x32)
      (boxRow i 19 x19 x32)
      (boxRow i 20 x20 x32)
      (boxRow i 21 x21 x32)
      (boxRow i 22 x22 x32)
      (boxRow i 23 x23 x32)
      (boxRow i 24 x24 x32)
      (boxRow i 25 x25 x32)
      (boxRow i 26 x26 x32)
      (boxRow i 27 x27 x32)
      (boxRow i 28 x28 x32)
      (boxRow i 29 x29 x32)
      (boxRow i 30 x30 x32)
      (boxRow i 31 x31 x32)⟩] := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 xt0).1 =
    [⟨Rect.unit (s := S1x32x128) ![0, 0, 0] ![1, 32, 128] inb_S1x32x128_S1x32x128_0_0_0, stack _ _ _ _ _ _ _ _ _ _ _ _ _ _ _ _ _ _ _ _ _ _ _ _ _ _ _ _ _ _ _ _⟩] := rfl
  rw [e, row_0, row_1, row_2, row_3, row_4, row_5, row_6, row_7, row_8, row_9, row_10, row_11, row_12, row_13, row_14, row_15, row_16, row_17, row_18, row_19, row_20, row_21, row_22, row_23, row_24, row_25, row_26, row_27, row_28, row_29, row_30, row_31]

end Cert.KernelIdeal.Row

end
-- ==== Proof.Block.lean ====
module

public import proofs.«01_k».proof.Proof.Stack
public import proofs.«01_k».proof.Proof.RegionKernelIdeal
public import proofs.«01_k».proof.Proof.TableKernelIdeal
public import Idealize.ShloMosaic.Lib.Pipeline.ValueKit
public import Idealize.ShloMosaic.Lib.Pipeline.ReadBack
public import Idealize.ShloMosaic.Lib.Pipeline.Value
public import Idealize.ShloMosaic.Lib.Pointwise

@[expose] public section

set_option maxRecDepth 16384

noncomputable section

namespace Cert.KernelIdeal.Block

open Idealize.ShloMosaic Idealize.ShloMosaic.TcCoe Idealize.SL.Sem Idealize.SL.RA Idealize.ShloMosaic.Pipeline
open Cert.KernelIdeal Cert.KernelIdeal.Gen Cert.KernelIdeal.Row Cert.KernelIdeal.Region Cert.KernelIdeal.Table

variable {F : FTy → Type} [FloatOps F] (m : (ℓ : Loc nD τ sig) → Buf (Elt F) ℓ)

/-- The block after a point: the stack of the rows of its boxes. -/
theorem outAt_eq (hO : Ok m) (c : Dev nD) (t : Fin (cfgM m hO).N) : outAt m hO c t =
  stack (boxRow (grid0.coords t) 0 (iblk m hO c 0 t) (iblk m hO c 32 t))
    (boxRow (grid0.coords t) 1 (iblk m hO c 1 t) (iblk m hO c 32 t))
    (boxRow (grid0.coords t) 2 (iblk m hO c 2 t) (iblk m hO c 32 t))
    (boxRow (grid0.coords t) 3 (iblk m hO c 3 t) (iblk m hO c 32 t))
    (boxRow (grid0.coords t) 4 (iblk m hO c 4 t) (iblk m hO c 32 t))
    (boxRow (grid0.coords t) 5 (iblk m hO c 5 t) (iblk m hO c 32 t))
    (boxRow (grid0.coords t) 6 (iblk m hO c 6 t) (iblk m hO c 32 t))
    (boxRow (grid0.coords t) 7 (iblk m hO c 7 t) (iblk m hO c 32 t))
    (boxRow (grid0.coords t) 8 (iblk m hO c 8 t) (iblk m hO c 32 t))
    (boxRow (grid0.coords t) 9 (iblk m hO c 9 t) (iblk m hO c 32 t))
    (boxRow (grid0.coords t) 10 (iblk m hO c 10 t) (iblk m hO c 32 t))
    (boxRow (grid0.coords t) 11 (iblk m hO c 11 t) (iblk m hO c 32 t))
    (boxRow (grid0.coords t) 12 (iblk m hO c 12 t) (iblk m hO c 32 t))
    (boxRow (grid0.coords t) 13 (iblk m hO c 13 t) (iblk m hO c 32 t))
    (boxRow (grid0.coords t) 14 (iblk m hO c 14 t) (iblk m hO c 32 t))
    (boxRow (grid0.coords t) 15 (iblk m hO c 15 t) (iblk m hO c 32 t))
    (boxRow (grid0.coords t) 16 (iblk m hO c 16 t) (iblk m hO c 32 t))
    (boxRow (grid0.coords t) 17 (iblk m hO c 17 t) (iblk m hO c 32 t))
    (boxRow (grid0.coords t) 18 (iblk m hO c 18 t) (iblk m hO c 32 t))
    (boxRow (grid0.coords t) 19 (iblk m hO c 19 t) (iblk m hO c 32 t))
    (boxRow (grid0.coords t) 20 (iblk m hO c 20 t) (iblk m hO c 32 t))
    (boxRow (grid0.coords t) 21 (iblk m hO c 21 t) (iblk m hO c 32 t))
    (boxRow (grid0.coords t) 22 (iblk m hO c 22 t) (iblk m hO c 32 t))
    (boxRow (grid0.coords t) 23 (iblk m hO c 23 t) (iblk m hO c 32 t))
    (boxRow (grid0.coords t) 24 (iblk m hO c 24 t) (iblk m hO c 32 t))
    (boxRow (grid0.coords t) 25 (iblk m hO c 25 t) (iblk m hO c 32 t))
    (boxRow (grid0.coords t) 26 (iblk m hO c 26 t) (iblk m hO c 32 t))
    (boxRow (grid0.coords t) 27 (iblk m hO c 27 t) (iblk m hO c 32 t))
    (boxRow (grid0.coords t) 28 (iblk m hO c 28 t) (iblk m hO c 32 t))
    (boxRow (grid0.coords t) 29 (iblk m hO c 29 t) (iblk m hO c 32 t))
    (boxRow (grid0.coords t) 30 (iblk m hO c 30 t) (iblk m hO c 32 t))
    (boxRow (grid0.coords t) 31 (iblk m hO c 31 t) (iblk m hO c 32 t)) := by
  unfold outAt pieces
  refine (congrArg (fun L => VO0_33.read (Elt F) (VO0_33.writes (Elt F) VO0_33.junk L)) (run_stack ..)).trans ?_
  refine (View.read_writes_junk_eq_canon VO0_33 _).trans ?_
  exact View.canon_unit_zero (by funext a; match a with | 0 => rfl | 1 => rfl | 2 => rfl) _ _

/-- The map window `k` carries at a point, when the labels are in range. -/
def classMap (hl : ∀ y : S512.Idx, (tbl m 0 y : BitVec 32).toNat < 80) (c : Dev nD) (i : grid0.Coords) (k : Fin 32) : Vec F S1x1x400x100 .f32 := fun y =>
  (V m c main_v1 : FVec F S16x80x400x100 .f32) (ix4 (i 0) ⟨(label (tbl m) i k).toNat, hl _⟩ (y 2) (y 3))

/-- A block placed where the table says holds that map. -/
theorem placed_eq (hl : ∀ y : S512.Idx, (tbl m 0 y : BitVec 32).toNat < 80) (c : Dev nD) (i : grid0.Coords) (k : Fin 32)
    (e : S1x1x400x100.Idx → S16x80x400x100.Idx)
    (he : ∀ y a, (e y a).val = place (tbl m) i k a * S1x1x400x100.size a + 1 * (y a).val) :
    (fun y => (V m c main_v1 : FVec F S16x80x400x100 .f32) (e y)) = classMap m hl c i k := by
  funext y
  refine congrArg (V m c main_v1 : FVec F S16x80x400x100 .f32) (funext fun a => Fin.ext ?_)
  rw [he, place_eq]
  have h0 : (y 0).val < 1 := (y 0).isLt
  have h1 : (y 1).val < 1 := (y 1).isLt
  match a with
  | 0 => show (i 0).val * 1 + 1 * (y 0).val = (i 0).val; omega
  | 1 => show (label (tbl m) i k).toNat * 1 + 1 * (y 1).val = (label (tbl m) i k).toNat; omega
  | 2 => show 0 * 400 + 1 * (y 2).val = (y 2).val; omega
  | 3 => show 0 * 100 + 1 * (y 3).val = (y 3).val; omega

/-- The block of the ground-truth boxes is the whole array. -/
theorem truth_eq (hO : Ok m) (c : Dev nD) (t : Fin (cfgM m hO).N) :
    iblk m hO c 32 t = (V m c main_v2 : FVec F S2048 .f32) := by
  funext y
  unfold iblk
  refine congrArg (V m c main_v2 : FVec F S2048 .f32) (funext fun a => Fin.ext ?_)
  match a with
  | ⟨0, h⟩ => show 0 * 2048 + 1 * (y ⟨0, h⟩).val = (y ⟨0, h⟩).val; omega

set_option maxHeartbeats 4000000 in
/-- An entry of the output's block is an entry of the row of its box. -/
theorem outAt_apply (hO : Ok m) (hl : ∀ y : S512.Idx, (tbl m 0 y : BitVec 32).toNat < 80) (c : Dev nD) (t : Fin (cfgM m hO).N)
    (k : Fin 32) (l : Fin 128) : outAt m hO c t (ix3 (0 : Fin 1) k l) =
      boxRow (grid0.coords t) k (classMap m hl c (grid0.coords t) k) (V m c main_v2) (ix2 (0 : Fin 1) l) := by
  rw [outAt_eq, truth_eq]
  have h (k : Fin 32) e he := placed_eq m hl c (grid0.coords t) k e he
  have e0 : iblk m hO c 0 t = classMap m hl c (grid0.coords t) 0 := h 0 _ fun y a => rfl
  have e1 : iblk m hO c 1 t = classMap m hl c (grid0.coords t) 1 := h 1 _ fun y a => rfl
  have e2 : iblk m hO c 2 t = classMap m hl c (grid0.coords t) 2 := h 2 _ fun y a => rfl
  have e3 : iblk m hO c 3 t = classMap m hl c (grid0.coords t) 3 := h 3 _ fun y a => rfl
  have e4 : iblk m hO c 4 t = classMap m hl c (grid0.coords t) 4 := h 4 _ fun y a => rfl
  have e5 : iblk m hO c 5 t = classMap m hl c (grid0.coords t) 5 := h 5 _ fun y a => rfl
  have e6 : iblk m hO c 6 t = classMap m hl c (grid0.coords t) 6 := h 6 _ fun y a => rfl
  have e7 : iblk m hO c 7 t = classMap m hl c (grid0.coords t) 7 := h 7 _ fun y a => rfl
  have e8 : iblk m hO c 8 t = classMap m hl c (grid0.coords t) 8 := h 8 _ fun y a => rfl
  have e9 : iblk m hO c 9 t = classMap m hl c (grid0.coords t) 9 := h 9 _ fun y a => rfl
  have e10 : iblk m hO c 10 t = classMap m hl c (grid0.coords t) 10 := h 10 _ fun y a => rfl
  have e11 : iblk m hO c 11 t = classMap m hl c (grid0.coords t) 11 := h 11 _ fun y a => rfl
  have e12 : iblk m hO c 12 t = classMap m hl c (grid0.coords t) 12 := h 12 _ fun y a => rfl
  have e13 : iblk m hO c 13 t = classMap m hl c (grid0.coords t) 13 := h 13 _ fun y a => rfl
  have e14 : iblk m hO c 14 t = classMap m hl c (grid0.coords t) 14 := h 14 _ fun y a => rfl
  have e15 : iblk m hO c 15 t = classMap m hl c (grid0.coords t) 15 := h 15 _ fun y a => rfl
  have e16 : iblk m hO c 16 t = classMap m hl c (grid0.coords t) 16 := h 16 _ fun y a => rfl
  have e17 : iblk m hO c 17 t = classMap m hl c (grid0.coords t) 17 := h 17 _ fun y a => rfl
  have e18 : iblk m hO c 18 t = classMap m hl c (grid0.coords t) 18 := h 18 _ fun y a => rfl
  have e19 : iblk m hO c 19 t = classMap m hl c (grid0.coords t) 19 := h 19 _ fun y a => rfl
  have e20 : iblk m hO c 20 t = classMap m hl c (grid0.coords t) 20 := h 20 _ fun y a => rfl
  have e21 : iblk m hO c 21 t = classMap m hl c (grid0.coords t) 21 := h 21 _ fun y a => rfl
  have e22 : iblk m hO c 22 t = classMap m hl c (grid0.coords t) 22 := h 22 _ fun y a => rfl
  have e23 : iblk m hO c 23 t = classMap m hl c (grid0.coords t) 23 := h 23 _ fun y a => rfl
  have e24 : iblk m hO c 24 t = classMap m hl c (grid0.coords t) 24 := h 24 _ fun y a => rfl
  have e25 : iblk m hO c 25 t = classMap m hl c (grid0.coords t) 25 := h 25 _ fun y a => rfl
  have e26 : iblk m hO c 26 t = classMap m hl c (grid0.coords t) 26 := h 26 _ fun y a => rfl
  have e27 : iblk m hO c 27 t = classMap m hl c (grid0.coords t) 27 := h 27 _ fun y a => rfl
  have e28 : iblk m hO c 28 t = classMap m hl c (grid0.coords t) 28 := h 28 _ fun y a => rfl
  have e29 : iblk m hO c 29 t = classMap m hl c (grid0.coords t) 29 := h 29 _ fun y a => rfl
  have e30 : iblk m hO c 30 t = classMap m hl c (grid0.coords t) 30 := h 30 _ fun y a => rfl
  have e31 : iblk m hO c 31 t = classMap m hl c (grid0.coords t) 31 := h 31 _ fun y a => rfl
  rw [e0, e1, e2, e3, e4, e5, e6, e7, e8, e9, e10, e11, e12, e13, e14, e15, e16, e17, e18, e19, e20, e21, e22, e23, e24, e25, e26, e27, e28, e29, e30, e31]
  exact stack_apply (fun k => boxRow (grid0.coords t) k (classMap m hl c (grid0.coords t) k) (V m c main_v2)) k l

end Cert.KernelIdeal.Block

end
-- ==== Proof.Overlap.lean ====
/- The generalised overlap of two boxes over the extended reals: with the first box in order and the second finite, the
   enclosing box needs no clipping, and the overlaps with one finite box are never both of plus and minus infinity. -/
module

public import Idealize.ShloMosaic.PureOps.Ideal.Laws

@[expose] public section

noncomputable section

namespace Cert.Maths

open Idealize.ShloMosaic

/-- The area common to the boxes `p q r s` and `a b c d`. -/
def inter (a b c d p q r s : EReal) : EReal := max (min r c - max p a) 0 * max (min s d - max q b) 0

/-- The area of their union. -/
def union (a b c d p q r s : EReal) : EReal := (r - p) * (s - q) + (c - a) * (d - b) - inter a b c d p q r s

/-- The area of the box about them. -/
def hull (a b c d p q r s : EReal) : EReal := (max r c - min p a) * (max s d - min q b)

/-- The same with both sides clipped at zero. -/
def hullClipped (a b c d p q r s : EReal) : EReal := max (max r c - min p a) 0 * max (max s d - min q b) 0

/-- The generalised overlap, given the area of the box about the two. -/
def overlap (h i u : EReal) : EReal := Ideal.div i u - Ideal.div (h - u) h

/-- The generalised overlap. -/
def giou (a b c d p q r s : EReal) : EReal :=
  overlap (hull a b c d p q r s) (inter a b c d p q r s) (union a b c d p q r s)

/-- The hull's side is at least the finite box's. -/
theorem side_le (a c p r : EReal) : c - a ≤ max r c - min p a :=
  EReal.sub_le_sub (le_max_right _ _) (min_le_right _ _)

/-- Division by a nonzero real of a real is a real. -/
theorem div_real (x y : ℝ) (h : y ≠ 0) : Ideal.div (x : EReal) y = ((x / y : ℝ) : EReal) := by
  unfold Ideal.div
  rw [if_neg (by exact_mod_cast h), ← EReal.coe_inv, ← EReal.coe_mul, div_eq_mul_inv]

/-- The plain overlap is not plus infinity. -/
theorem iou_ne_top (A : EReal) (e i : ℝ) (he : 0 ≤ e) (hi : 0 ≤ i) (hA : 0 < i → 0 < A) :
    Ideal.div (i : EReal) (A + e) ≠ ⊤ := by
  unfold Ideal.div
  split_ifs with h h'
  · exfalso
    have hp := hA (EReal.coe_pos.1 h')
    induction A using EReal.rec with
    | bot => exact absurd hp (by simp)
    | top => simp at h
    | coe x =>
      rw [← EReal.coe_add] at h
      have hx : 0 < x := EReal.coe_pos.1 hp
      have : x + e = 0 := by exact_mod_cast h
      linarith
  · simp
  · generalize A + (e : EReal) = U at h
    induction U using EReal.rec with
    | bot => simp
    | top => simp
    | coe x =>
      rw [← EReal.coe_inv, ← EReal.coe_mul]
      exact EReal.coe_ne_top _

/-- A zero quotient of zeros is minus infinity. -/
theorem div_zero_zero : Ideal.div 0 0 = ⊥ := by simp [Ideal.div]

/-- The overlap is not plus infinity, from the sides alone: `w` the first box's, `u` the second's, `i` the common box's,
    `h` the hull's. -/
theorem overlap_ne_top (w₁ w₂ h₁ h₂ : EReal) (u₁ u₂ i₁ i₂ : ℝ) (hi₁ : 0 ≤ i₁) (hi₂ : 0 ≤ i₂) (hu₁ : i₁ ≤ u₁) (hu₂ : i₂ ≤ u₂)
    (hp₁ : 0 < i₁ → 0 < w₁) (hp₂ : 0 < i₂ → 0 < w₂) (hh₁ : (u₁ : EReal) ≤ h₁) (hh₂ : (u₂ : EReal) ≤ h₂)
    (hw₁ : h₁ = ⊤ ∨ ∃ x y : ℝ, 0 ≤ x ∧ x ≤ y ∧ w₁ = x ∧ h₁ = y) (hw₂ : h₂ = ⊤ ∨ ∃ x y : ℝ, 0 ≤ x ∧ x ≤ y ∧ w₂ = x ∧ h₂ = y) :
    overlap (h₁ * h₂) ((i₁ : EReal) * i₂) (w₁ * w₂ + (u₁ : EReal) * u₂ - (i₁ : EReal) * i₂) ≠ ⊤ := by
  have hii : 0 ≤ i₁ * i₂ := mul_nonneg hi₁ hi₂
  have huu : i₁ * i₂ ≤ u₁ * u₂ := mul_le_mul hu₁ hu₂ hi₂ (hi₁.trans hu₁)
  have hU : w₁ * w₂ + (u₁ : EReal) * u₂ - (i₁ : EReal) * i₂ = w₁ * w₂ + ((u₁ * u₂ - i₁ * i₂ : ℝ) : EReal) := by
    rw [EReal.coe_sub, EReal.coe_mul, EReal.coe_mul, sub_eq_add_neg, sub_eq_add_neg, add_assoc]
  rw [hU, ← EReal.coe_mul]
  have hiou : Ideal.div ((i₁ * i₂ : ℝ) : EReal) (w₁ * w₂ + ((u₁ * u₂ - i₁ * i₂ : ℝ) : EReal)) ≠ ⊤ := by
    refine iou_ne_top _ _ _ (by linarith) hii fun h => ?_
    have h1 : i₁ ≠ 0 := fun e => by simp [e] at h
    have h2 : i₂ ≠ 0 := fun e => by simp [e] at h
    exact EReal.mul_pos (hp₁ (lt_of_le_of_ne hi₁ h1.symm)) (hp₂ (lt_of_le_of_ne hi₂ h2.symm))
  -- a hull of infinite area leaves the plain overlap
  have htop : ∀ U i : EReal, Ideal.div i U ≠ ⊤ → overlap ⊤ i U ≠ ⊤ := fun U i h => by
    unfold overlap
    rw [show Ideal.div (⊤ - U) ⊤ = 0 by simp [Ideal.div], sub_zero]
    exact h
  -- a hull of no area makes it minus infinity
  have hzero : ∀ {w : EReal} {u i : ℝ}, w = 0 → 0 ≤ i → i ≤ u → u ≤ 0 → w = 0 ∧ u = 0 ∧ i = 0 :=
    fun h0 h1 h2 h3 => ⟨h0, le_antisymm h3 (h1.trans h2), le_antisymm (h2.trans h3) h1⟩
  have hbot : ∀ h : EReal, overlap h 0 0 ≠ ⊤ := fun h => by
    unfold overlap
    rw [div_zero_zero, sub_eq_add_neg, EReal.bot_add]
    exact bot_ne_top
  rcases hw₁ with rfl | ⟨x₁, y₁, hx₁, hxy₁, rfl, rfl⟩
  · rcases eq_or_lt_of_le (show (0 : EReal) ≤ h₂ from (EReal.coe_nonneg.2 (hi₂.trans hu₂)).trans hh₂) with e | e
    · rcases hw₂ with rfl | ⟨x, y, hx, hxy, rfl, rfl⟩
      · simp at e
      · have hy : y = 0 := by exact_mod_cast e.symm
        have hx0 : x = 0 := by linarith
        have hu : u₂ ≤ 0 := by rw [hy] at hh₂; exact_mod_cast hh₂
        obtain ⟨_, hu0, hi0⟩ := hzero (w := 0) rfl hi₂ hu₂ hu
        subst hx0 hy
        rw [hu0, hi0]
        simpa using hbot _
    · rw [EReal.top_mul_of_pos e]
      exact htop _ _ hiou
  · rcases hw₂ with rfl | ⟨x₂, y₂, hx₂, hxy₂, rfl, rfl⟩
    · rcases eq_or_lt_of_le (show (0 : ℝ) ≤ y₁ from hx₁.trans hxy₁) with e | e
      · have hx0 : x₁ = 0 := by linarith
        have hu : u₁ ≤ 0 := by rw [← e] at hh₁; exact_mod_cast hh₁
        obtain ⟨_, hu0, hi0⟩ := hzero (w := 0) rfl hi₁ hu₁ hu
        rw [hx0, hu0, hi0, ← e]
        simpa using hbot _
      · rw [EReal.mul_top_of_pos (EReal.coe_pos.2 e)]
        exact htop _ _ hiou
    · rcases eq_or_ne (y₁ * y₂) 0 with e | e
      · have hz : x₁ * x₂ = 0 ∧ u₁ * u₂ = 0 ∧ i₁ * i₂ = 0 := by
          have hu₁' : u₁ ≤ y₁ := by exact_mod_cast hh₁
          have hu₂' : u₂ ≤ y₂ := by exact_mod_cast hh₂
          rcases mul_eq_zero.1 e with e | e
          · obtain ⟨_, hu0, hi0⟩ := hzero (w := 0) rfl hi₁ hu₁ (hu₁'.trans e.le)
            exact ⟨by rw [show x₁ = 0 by linarith, zero_mul], by rw [hu0, zero_mul], by rw [hi0, zero_mul]⟩
          · obtain ⟨_, hu0, hi0⟩ := hzero (w := 0) rfl hi₂ hu₂ (hu₂'.trans e.le)
            exact ⟨by rw [show x₂ = 0 by linarith, mul_zero], by rw [hu0, mul_zero], by rw [hi0, mul_zero]⟩
        rw [← EReal.coe_mul x₁ x₂, hz.1, hz.2.1, hz.2.2]
        simpa using hbot _
      · unfold overlap
        rw [← EReal.coe_mul y₁ y₂, ← EReal.coe_mul x₁ x₂, ← EReal.coe_add, ← EReal.coe_sub, div_real _ _ e]
        rcases eq_or_ne (x₁ * x₂ + (u₁ * u₂ - i₁ * i₂)) 0 with e' | e'
        · have hxx := mul_nonneg hx₁ hx₂
          have hiz : i₁ * i₂ = 0 := by
            by_contra hne
            rw [← EReal.coe_mul, ← EReal.coe_add, e'] at hiou
            apply hiou
            unfold Ideal.div
            rw [if_pos (by simp), if_pos (EReal.coe_pos.2 (lt_of_le_of_ne hii (Ne.symm hne)))]
          rw [e', hiz, EReal.coe_zero, div_zero_zero, sub_eq_add_neg, EReal.bot_add]
          exact bot_ne_top
        · rw [div_real _ _ e', ← EReal.coe_sub]
          exact EReal.coe_ne_top _

/-- The sides on one axis: the hull's is infinite, or the first box is finite there. -/
theorem side_cases (a c : ℝ) (p r : EReal) (hr : p ≤ r) :
    max r c - min p a = ⊤ ∨ ∃ x y : ℝ, 0 ≤ x ∧ x ≤ y ∧ r - p = x ∧ max r (c : EReal) - min p a = y := by
  induction p using EReal.rec with
  | bot =>
    left
    rw [show min (⊥ : EReal) a = ⊥ from min_eq_left bot_le, EReal.sub_bot]
    exact (lt_of_lt_of_le (EReal.bot_lt_coe c) (le_max_right _ _)).ne'
  | top =>
    left
    rw [top_le_iff.1 hr, show max (⊤ : EReal) c = ⊤ from max_eq_left le_top, show min (⊤ : EReal) a = a from min_eq_right le_top,
      EReal.top_sub_coe]
  | coe p =>
    induction r using EReal.rec with
    | bot => exact absurd hr (by simp)
    | top =>
      left
      rw [show max (⊤ : EReal) c = ⊤ from max_eq_left le_top, ← EReal.coe_strictMono.monotone.map_min, EReal.top_sub_coe]
    | coe r =>
      right
      have h : p ≤ r := by exact_mod_cast hr
      refine ⟨r - p, max r c - min p a, by linarith, ?_, by rw [EReal.coe_sub], by rw [← EReal.coe_strictMono.monotone.map_max, ← EReal.coe_strictMono.monotone.map_min, EReal.coe_sub]⟩
      have := le_max_left r c
      have := min_le_left p a
      linarith

/-- So the hull needs no clipping. -/
theorem hull_eq (a b c d : ℝ) (p q r s : EReal) (hr : p ≤ r) (hs : q ≤ s) :
    hullClipped a b c d p q r s = hull a b c d p q r s := by
  have h {a c : ℝ} {p r : EReal} (h : p ≤ r) : (0 : EReal) ≤ max r c - min p a := by
    rcases side_cases a c p r h with e | ⟨x, y, hx, hxy, -, e⟩
    · rw [e]; exact le_top
    · rw [e]; exact EReal.coe_nonneg.2 (hx.trans hxy)
  unfold hullClipped hull
  rw [max_eq_left (h hr), max_eq_left (h hs)]

/-- The sides on one axis: the common one lies between zero and the second box's, and is positive only if the first's is. -/
theorem side_inter (a c : ℝ) (p r : EReal) (h : a ≤ c) : ∃ i : ℝ, max (min r (c : EReal) - max p a) 0 = i ∧ 0 ≤ i ∧ i ≤ c - a ∧
    (0 < i → 0 < r - p) := by
  have hle : max (min r (c : EReal) - max p a) 0 ≤ ((c - a : ℝ) : EReal) := by
    refine max_le ?_ (EReal.coe_nonneg.2 (by linarith))
    rw [EReal.coe_sub]
    exact EReal.sub_le_sub (min_le_right _ _) (le_max_right _ _)
  have hge : (0 : EReal) ≤ max (min r (c : EReal) - max p a) 0 := le_max_right _ _
  obtain ⟨i, hi⟩ : ∃ i : ℝ, max (min r (c : EReal) - max p a) 0 = i :=
    ⟨_, (EReal.coe_toReal (ne_top_of_le_ne_top (EReal.coe_ne_top _) hle) (ne_bot_of_le_ne_bot (by simp) hge)).symm⟩
  rw [hi] at hle hge
  refine ⟨i, hi, by exact_mod_cast hge, by exact_mod_cast hle, fun hp => ?_⟩
  have hlt : (0 : EReal) < min r (c : EReal) - max p a := by
    by_contra hn
    rw [max_eq_right (not_lt.1 hn)] at hi
    have : (0 : ℝ) = i := by exact_mod_cast hi
    linarith
  exact lt_of_lt_of_le hlt (EReal.sub_le_sub (min_le_left _ _) (le_max_left _ _))

/-- The generalised overlap is not plus infinity. -/
theorem giou_ne_top (a b c d : ℝ) (p q r s : EReal) (hx : a ≤ c) (hy : b ≤ d) (hr : p ≤ r) (hs : q ≤ s) :
    giou a b c d p q r s ≠ ⊤ := by
  obtain ⟨i, hi, hi0, hiu, hip⟩ := side_inter a c p r hx
  obtain ⟨j, hj, hj0, hju, hjp⟩ := side_inter b d q s hy
  unfold giou hull union inter
  rw [hi, hj, ← EReal.coe_sub, ← EReal.coe_sub]
  exact overlap_ne_top _ _ _ _ _ _ _ _ hi0 hj0 hiu hju hip hjp (by rw [EReal.coe_sub]; exact side_le _ _ _ _)
    (by rw [EReal.coe_sub]; exact side_le _ _ _ _) (side_cases a c p r hr) (side_cases b d q s hs)

/-- The hull's area is infinite, or it is zero and the first box's is, or both are real. -/
theorem area_cases {w₁ w₂ h₁ h₂ : EReal}
    (hw₁ : h₁ = ⊤ ∨ ∃ x y : ℝ, 0 ≤ x ∧ x ≤ y ∧ w₁ = x ∧ h₁ = y) (hw₂ : h₂ = ⊤ ∨ ∃ x y : ℝ, 0 ≤ x ∧ x ≤ y ∧ w₂ = x ∧ h₂ = y) :
    h₁ * h₂ = ⊤ ∨ (h₁ * h₂ = 0 ∧ w₁ * w₂ = 0) ∨ ∃ x y : ℝ, y ≠ 0 ∧ w₁ * w₂ = x ∧ h₁ * h₂ = y := by
  rcases hw₁ with rfl | ⟨x₁, y₁, hx₁, hxy₁, rfl, rfl⟩ <;> rcases hw₂ with rfl | ⟨x₂, y₂, hx₂, hxy₂, rfl, rfl⟩
  · left; rfl
  · rcases eq_or_lt_of_le (hx₂.trans hxy₂) with e | e
    · right; left
      obtain rfl : x₂ = 0 := le_antisymm (hxy₂.trans e.ge) hx₂
      rw [← e]; simp
    · left; exact EReal.top_mul_of_pos (EReal.coe_pos.2 e)
  · rcases eq_or_lt_of_le (hx₁.trans hxy₁) with e | e
    · right; left
      obtain rfl : x₁ = 0 := le_antisymm (hxy₁.trans e.ge) hx₁
      rw [← e]; simp
    · left; exact EReal.mul_top_of_pos (EReal.coe_pos.2 e)
  · rw [← EReal.coe_mul, ← EReal.coe_mul]
    rcases eq_or_ne (y₁ * y₂) 0 with e | e
    · right; left
      refine ⟨by rw [e]; rfl, ?_⟩
      rcases mul_eq_zero.1 e with e | e
      · rw [show x₁ = 0 by linarith, zero_mul]; rfl
      · rw [show x₂ = 0 by linarith, mul_zero]; rfl
    · right; right; exact ⟨_, _, e, rfl, rfl⟩

/-- A side of a box in order is minus infinity, if both its ends are one infinity, or it is not negative. -/
theorem side_sign {p r : EReal} (h : p ≤ r) : r - p = ⊥ ∨ 0 ≤ r - p := by
  induction p using EReal.rec with
  | bot => induction r using EReal.rec <;> simp
  | top => rw [top_le_iff.1 h]; simp
  | coe p =>
    induction r using EReal.rec with
    | bot => simp
    | top => simp
    | coe r =>
      right
      rw [← EReal.coe_sub]
      exact EReal.coe_nonneg.2 (sub_nonneg.2 (by exact_mod_cast h))

/-- So its area and a positive number do not cancel. -/
theorem area_add_ne_zero {w₁ w₂ : EReal} {e : ℝ} (he : 0 < e) (h₁ : w₁ = ⊥ ∨ 0 ≤ w₁) (h₂ : w₂ = ⊥ ∨ 0 ≤ w₂) :
    w₁ * w₂ + (e : EReal) ≠ 0 := by
  have hpos : ∀ A : EReal, 0 ≤ A → A + (e : EReal) ≠ 0 := fun A hA h => by
    have := add_le_add hA (le_refl (e : EReal))
    rw [h, zero_add] at this
    exact absurd (EReal.coe_nonpos.1 this) (not_le.2 he)
  have hbot : ∀ w : EReal, (w = ⊥ ∨ 0 ≤ w) → ⊥ * w + (e : EReal) ≠ 0 := by
    rintro w (rfl | hw)
    · rw [EReal.bot_mul_bot]; exact hpos _ le_top
    · rcases eq_or_lt_of_le hw with h | h
      · rw [← h, mul_zero]; exact hpos _ le_rfl
      · rw [EReal.bot_mul_of_pos h, EReal.bot_add]; exact EReal.bot_ne_zero
  rcases h₁ with rfl | h₁
  · exact hbot _ h₂
  · rcases h₂ with rfl | h₂
    · rw [mul_comm]; exact hbot _ (.inr h₁)
    · exact hpos _ (mul_nonneg h₁ h₂)

/-- Zero divided by anything is zero or minus infinity. -/
theorem zero_div_ne_top (u : EReal) : Ideal.div 0 u ≠ ⊤ := by
  unfold Ideal.div
  split_ifs with h h'
  · exact absurd h' (lt_irrefl _)
  · exact bot_ne_top
  · rw [zero_mul]; exact EReal.zero_ne_top

/-- The overlap with a box in disorder, which has nothing in common with the first: plus infinity is not among the values if
    its area `e` is not positive. -/
theorem overlap_apart_ne_top {w₁ w₂ h₁ h₂ : EReal} {e : ℝ} (he : e ≤ 0)
    (hw₁ : h₁ = ⊤ ∨ ∃ x y : ℝ, 0 ≤ x ∧ x ≤ y ∧ w₁ = x ∧ h₁ = y) (hw₂ : h₂ = ⊤ ∨ ∃ x y : ℝ, 0 ≤ x ∧ x ≤ y ∧ w₂ = x ∧ h₂ = y) :
    overlap (h₁ * h₂) 0 (w₁ * w₂ + (e : EReal)) ≠ ⊤ := by
  unfold overlap
  rcases area_cases hw₁ hw₂ with h | ⟨h, hA⟩ | ⟨x, y, hy, hA, h⟩
  · rw [h, show ∀ v, Ideal.div v ⊤ = 0 by simp [Ideal.div], sub_zero]
    exact zero_div_ne_top _
  · rw [h, hA, zero_add]
    rcases eq_or_lt_of_le he with rfl | he
    · rw [EReal.coe_zero, div_zero_zero, sub_eq_add_neg, EReal.bot_add]; exact bot_ne_top
    · have : (0 : EReal) < 0 - (e : EReal) := by
        rw [zero_sub, ← EReal.coe_neg]; exact EReal.coe_pos.2 (neg_pos.2 he)
      rw [show Ideal.div (0 - (e : EReal)) 0 = ⊤ by unfold Ideal.div; rw [if_pos rfl, if_pos this], sub_eq_add_neg, EReal.neg_top,
        EReal.add_bot]
      exact bot_ne_top
  · rw [h, hA, ← EReal.coe_add, ← EReal.coe_sub, div_real _ _ hy, sub_eq_add_neg, ← EReal.coe_neg]
    exact EReal.add_ne_top (zero_div_ne_top _) (EReal.coe_ne_top _)

/-- And minus infinity is not if `e` is positive. -/
theorem overlap_apart_ne_bot {w₁ w₂ h₁ h₂ : EReal} {e : ℝ} (he : 0 < e) (hs₁ : w₁ = ⊥ ∨ 0 ≤ w₁) (hs₂ : w₂ = ⊥ ∨ 0 ≤ w₂)
    (hw₁ : h₁ = ⊤ ∨ ∃ x y : ℝ, 0 ≤ x ∧ x ≤ y ∧ w₁ = x ∧ h₁ = y) (hw₂ : h₂ = ⊤ ∨ ∃ x y : ℝ, 0 ≤ x ∧ x ≤ y ∧ w₂ = x ∧ h₂ = y) :
    overlap (h₁ * h₂) 0 (w₁ * w₂ + (e : EReal)) ≠ ⊥ := by
  have hu := area_add_ne_zero he hs₁ hs₂
  unfold overlap
  rw [show Ideal.div 0 (w₁ * w₂ + (e : EReal)) = 0 by unfold Ideal.div; rw [if_neg hu, zero_mul], zero_sub]
  rcases area_cases hw₁ hw₂ with h | ⟨h, hA⟩ | ⟨x, y, hy, hA, h⟩
  · rw [h, show ∀ v, Ideal.div v ⊤ = 0 by simp [Ideal.div], neg_zero]
    exact EReal.zero_ne_bot
  · rw [h, hA, zero_add]
    have : ¬ (0 : EReal) < 0 - (e : EReal) := by
      rw [zero_sub, ← EReal.coe_neg]
      exact fun h => absurd (EReal.coe_pos.1 h) (not_lt.2 (neg_nonpos.2 he.le))
    rw [show Ideal.div (0 - (e : EReal)) 0 = ⊥ by unfold Ideal.div; rw [if_pos rfl, if_neg this], EReal.neg_bot]
    exact top_ne_bot
  · rw [h, hA, ← EReal.coe_add, ← EReal.coe_sub, div_real _ _ hy, ← EReal.coe_neg]
    exact EReal.coe_ne_bot _

/-- Against a box in disorder on an axis the common side is zero. -/
theorem side_apart (a c : ℝ) (p r : EReal) (h : c < a) : max (min r (c : EReal) - max p a) 0 = 0 := by
  refine max_eq_right (le_trans (EReal.sub_le_sub (min_le_right _ _) (le_max_right _ _)) ?_)
  rw [← EReal.coe_sub]
  exact EReal.coe_nonpos.2 (sub_nonpos.2 h.le)

/-- The overlaps of one finite box with boxes in order are never plus infinity, or never minus infinity. -/
theorem giou_oneSided (a b c d : ℝ) :
    (∀ p q r s : EReal, p ≤ r → q ≤ s → giou a b c d p q r s ≠ ⊤) ∨ (∀ p q r s : EReal, p ≤ r → q ≤ s → giou a b c d p q r s ≠ ⊥) := by
  by_cases h : a ≤ c ∧ b ≤ d
  · exact .inl fun p q r s => giou_ne_top a b c d p q r s h.1 h.2
  have hi : ∀ p q r s, inter a b c d p q r s = 0 := fun p q r s => by
    unfold inter
    rcases not_and_or.1 h with h | h
    · rw [side_apart a c p r (not_le.1 h), zero_mul]
    · rw [side_apart b d q s (not_le.1 h), mul_zero]
  have e : ∀ p q r s, giou a b c d p q r s = overlap ((max r c - min p a) * (max s d - min q b)) 0
      ((r - p) * (s - q) + (((c - a) * (d - b) : ℝ) : EReal)) := fun p q r s => by
    rw [giou, union, hi, sub_zero, EReal.coe_mul, EReal.coe_sub, EReal.coe_sub, hull]
  rcases le_or_gt ((c - a) * (d - b)) 0 with he | he
  · left; intro p q r s hr hs
    rw [e]
    exact overlap_apart_ne_top he (side_cases a c p r hr) (side_cases b d q s hs)
  · right; intro p q r s hr hs
    rw [e]
    exact overlap_apart_ne_bot he (side_sign hr) (side_sign hs) (side_cases a c p r hr) (side_cases b d q s hs)

end Cert.Maths

end
-- ==== Proof.Window.lean ====
/- The window about the first best cell of a 100 × 100 grid: which cell that is, what the window counts, and the sums over
   the window that the two programs write differently. -/
module

public import proofs.«01_k».proof.Proof.Overlap

@[expose] public section

noncomputable section

namespace Cert.Maths

/-- Cell `R C` attains the greatest value of `g`, and no cell attaining it comes before it in row order. -/
def First (g : Fin 100 → Fin 100 → EReal) (R C : Fin 100) : Prop :=
  (∀ r c, g r c ≤ g R C) ∧ ∀ r c, g r c = g R C → 100 * R.val + C.val ≤ 100 * r.val + c.val

/-- Every grid has a first best cell. -/
theorem exists_first (g : Fin 100 → Fin 100 → EReal) : ∃ R C, First g R C := by
  classical
  obtain ⟨m, -, hm⟩ := Finset.exists_max_image (Finset.univ : Finset (Fin 100 × Fin 100)) (fun p => g p.1 p.2) ⟨(0, 0), Finset.mem_univ _⟩
  obtain ⟨n, hn, hmin⟩ := Finset.exists_min_image (Finset.univ.filter fun p : Fin 100 × Fin 100 => g p.1 p.2 = g m.1 m.2)
    (fun p => 100 * p.1.val + p.2.val) ⟨m, by simp⟩
  have hn' : g n.1 n.2 = g m.1 m.2 := (Finset.mem_filter.mp hn).2
  refine ⟨n.1, n.2, fun r c => hn' ▸ hm (r, c) (Finset.mem_univ _), fun r c h => ?_⟩
  exact hmin (r, c) (Finset.mem_filter.mpr ⟨Finset.mem_univ _, h.trans hn'⟩)

/-- Coordinate `r` lies in the window about coordinate `R`: from two before it to one after it. -/
def near (R r : Fin 100) : Prop := R.val ≤ r.val + 2 ∧ r.val ≤ R.val + 1

instance (R r : Fin 100) : Decidable (near R r) := inferInstanceAs (Decidable (_ ∧ _))

/-- One on the window about cell `R C`, zero elsewhere. -/
def mask (R C r c : Fin 100) : EReal := if near R r ∧ near C c then 1 else 0

/-- The number of coordinates in the window about `R`. -/
def span (R : Fin 100) : ℕ := ∑ r, if near R r then 1 else 0

/-- The window's length from its two clipped ends. -/
theorem span_eq : ∀ R : Fin 100, span R + (R.val - 2) = min (R.val + 1) 99 + 1 := by
  unfold span; decide +kernel

/-- The same over the real numbers. -/
theorem span_real (R : Fin 100) :
    min ((R.val : ℝ) + 1) 99 - max ((R.val : ℝ) - 2) 0 + 1 = (span R : ℝ) := by
  have h := span_eq R
  have e : ((R.val - 2 : ℕ) : ℝ) = max ((R.val : ℝ) - 2) 0 := by
    rcases le_total 2 R.val with h2 | h2
    · rw [Nat.cast_sub h2, max_eq_left (by have : (2 : ℝ) ≤ R.val := by exact_mod_cast h2
                                           push_cast; linarith)]; norm_num
    · rw [Nat.sub_eq_zero_of_le h2, max_eq_right (by have : (R.val : ℝ) ≤ 2 := by exact_mod_cast h2
                                                     linarith)]; norm_num
  have h' : (span R : ℝ) + ((R.val - 2 : ℕ) : ℝ) = min ((R.val : ℝ) + 1) 99 + 1 := by exact_mod_cast congrArg (Nat.cast (R := ℝ)) h
  rw [e] at h'; linarith

/-- A natural number as an extended real, through the reals. -/
theorem natCast_eq (n : ℕ) : (n : EReal) = ((n : ℝ) : EReal) := by norm_cast

/-- A window holds as many cells as its two lengths multiply to. -/
theorem sum_mask (R C : Fin 100) : ∑ r, ∑ c, mask R C r c = (((span R * span C : ℕ) : ℝ) : EReal) := by
  have h : ∀ r c, mask R C r c = (((if near R r then 1 else 0) * (if near C c then 1 else 0) : ℕ) : EReal) := by
    intro r c; unfold mask; by_cases h1 : near R r <;> by_cases h2 : near C c <;> simp [h1, h2]
  simp only [h]
  rw [← natCast_eq, span, span, Finset.sum_mul_sum]
  push_cast
  rfl

/-- Over a finite set, a sum of `(1 - g) · k` is the sum of the `k` less the sum of the `g · k`, when each `k` is zero or
one and no `g` is `⊤`; neither sum of `g · k` is then `⊤`. -/
theorem sum_one_sub {ι : Type} (s : Finset ι) (g k : ι → EReal) (hk : ∀ i, k i = 0 ∨ k i = 1) (hg : ∀ i, g i ≠ ⊤) :
    (∑ i ∈ s, (1 - g i) * k i = (∑ i ∈ s, k i) - ∑ i ∈ s, g i * k i) ∧ (∑ i ∈ s, g i * k i ≠ ⊤) ∧
      ∃ n : ℕ, ∑ i ∈ s, k i = ((n : ℝ) : EReal) := by
  classical
  induction s using Finset.induction_on with
  | empty => exact ⟨by simp, by simp, 0, by simp⟩
  | insert a s ha ih =>
    obtain ⟨h1, h2, n, h3⟩ := ih
    simp only [Finset.sum_insert ha]
    rw [h1, h3]
    have hga := hg a
    rcases hk a with h | h
    · rw [h]; exact ⟨by simp, by simpa using h2, n, by simp⟩
    · rw [h]
      refine ⟨?_, ?_, n + 1, by push_cast; rw [add_comm]⟩
      · generalize ∑ i ∈ s, g i * k i = G at h2
        generalize g a = y at hga
        simp only [mul_one]
        induction y with
        | top => exact absurd rfl hga
        | bot =>
          rw [EReal.bot_add]
          induction G with
          | top => exact absurd rfl h2
          | bot => rfl
          | coe G => rfl
        | coe y =>
          induction G with
          | top => exact absurd rfl h2
          | bot => rfl
          | coe G =>
            have : (1 : EReal) = ((1 : ℝ) : EReal) := rfl
            rw [this]; simp only [← EReal.coe_sub, ← EReal.coe_add]; congr 1; ring
      · rw [mul_one]; exact EReal.add_ne_top hga h2

/-- The same when no `g` is `⊥`. -/
theorem sum_one_sub_bot {ι : Type} (s : Finset ι) (g k : ι → EReal) (hk : ∀ i, k i = 0 ∨ k i = 1) (hg : ∀ i, g i ≠ ⊥) :
    (∑ i ∈ s, (1 - g i) * k i = (∑ i ∈ s, k i) - ∑ i ∈ s, g i * k i) ∧ (∑ i ∈ s, g i * k i ≠ ⊥) ∧
      ∃ n : ℕ, ∑ i ∈ s, k i = ((n : ℝ) : EReal) := by
  classical
  induction s using Finset.induction_on with
  | empty => exact ⟨by simp, by simp, 0, by simp⟩
  | insert a s ha ih =>
    obtain ⟨h1, h2, n, h3⟩ := ih
    simp only [Finset.sum_insert ha]
    rw [h1, h3]
    have hga := hg a
    rcases hk a with h | h
    · rw [h]; exact ⟨by simp, by simpa using h2, n, by simp⟩
    · rw [h]
      refine ⟨?_, ?_, n + 1, by push_cast; rw [add_comm]⟩
      · generalize ∑ i ∈ s, g i * k i = G at h2
        generalize g a = y at hga
        simp only [mul_one]
        have one : (1 : EReal) = ((1 : ℝ) : EReal) := rfl
        have less : ∀ x : ℝ, (x : EReal) - ⊤ = ⊥ := fun x => by rw [sub_eq_add_neg, EReal.neg_top, EReal.add_bot]
        induction y with
        | bot => exact absurd rfl hga
        | top =>
          rw [EReal.top_add_of_ne_bot h2, one, ← EReal.coe_add, less, less, EReal.bot_add]
        | coe y =>
          induction G with
          | bot => exact absurd rfl h2
          | top =>
            rw [EReal.coe_add_top, one, ← EReal.coe_add, less, less, EReal.add_bot]
          | coe G =>
            rw [one]; simp only [← EReal.coe_sub, ← EReal.coe_add]; congr 1; ring
      · rw [mul_one]; exact EReal.add_ne_bot_iff.mpr ⟨hga, h2⟩

/-- A grid on which plus infinity does not occur, or minus infinity does not. -/
def OneSided (g : Fin 100 → Fin 100 → EReal) : Prop := (∀ r c, g r c ≠ ⊤) ∨ (∀ r c, g r c ≠ ⊥)

/-- The window's loss from the values on it: the kernel subtracts the values' sum from the number of cells. -/
theorem loss_eq (g : Fin 100 → Fin 100 → EReal) (hg : OneSided g) (R C : Fin 100) :
    ∑ r, ∑ c, (1 - g r c) * mask R C r c = (∑ r, ∑ c, mask R C r c) - ∑ r, ∑ c, g r c * mask R C r c := by
  have hk : ∀ p : Fin 100 × Fin 100, mask R C p.1 p.2 = 0 ∨ mask R C p.1 p.2 = 1 := fun p => by unfold mask; split <;> simp
  have h : ∑ p : Fin 100 × Fin 100, (1 - g p.1 p.2) * mask R C p.1 p.2
      = (∑ p : Fin 100 × Fin 100, mask R C p.1 p.2) - ∑ p : Fin 100 × Fin 100, g p.1 p.2 * mask R C p.1 p.2 := by
    rcases hg with hg | hg
    · exact (sum_one_sub Finset.univ (fun p : Fin 100 × Fin 100 => g p.1 p.2) (fun p => mask R C p.1 p.2) hk fun p => hg p.1 p.2).1
    · exact (sum_one_sub_bot Finset.univ (fun p : Fin 100 × Fin 100 => g p.1 p.2) (fun p => mask R C p.1 p.2) hk fun p => hg p.1 p.2).1
  simpa only [← Finset.univ_product_univ, Finset.sum_product] using h

/-- The greatest value, as a fold over the columns of the folds over their rows. -/
theorem fold_max (g : Fin 100 → Fin 100 → EReal) {R C : Fin 100} (h : First g R C) :
    (Finset.univ.fold max ⊥ fun c => Finset.univ.fold max ⊥ fun r => g r c) = g R C := by
  apply le_antisymm
  · refine Finset.fold_max_le _ |>.mpr ⟨bot_le, fun c _ => Finset.fold_max_le _ |>.mpr ⟨bot_le, fun r _ => h.1 r c⟩⟩
  · exact Finset.le_fold_max _ |>.mpr (.inr ⟨C, Finset.mem_univ _, Finset.le_fold_max _ |>.mpr (.inr ⟨R, Finset.mem_univ _, le_rfl⟩)⟩)

/-- The least key among the best cells is the first best cell's: rows count 128, and every other cell's key is greater. -/
theorem fold_key (g : Fin 100 → Fin 100 → EReal) {R C : Fin 100} (h : First g R C) (B : ℝ) (hB : 128 * 100 ≤ B) :
    (Finset.univ.fold min ⊤ fun c : Fin 100 => Finset.univ.fold min ⊤ fun r : Fin 100 =>
      if g r c = g R C then (((r.val : ℝ) * 128 + c.val : ℝ) : EReal) else ((B : ℝ) : EReal)) = (((R.val : ℝ) * 128 + C.val : ℝ) : EReal) := by
  apply le_antisymm
  · refine Finset.fold_min_le _ |>.mpr (.inr ⟨C, Finset.mem_univ _, Finset.fold_min_le _ |>.mpr (.inr ⟨R, Finset.mem_univ _, ?_⟩)⟩)
    rw [if_pos rfl]
  · refine Finset.le_fold_min _ |>.mpr ⟨le_top, fun c _ => Finset.le_fold_min _ |>.mpr ⟨le_top, fun r _ => ?_⟩⟩
    split
    · rename_i he
      have hi := h.2 r c he
      have := R.isLt; have := C.isLt; have := r.isLt; have := c.isLt
      have hn : R.val * 128 + C.val ≤ r.val * 128 + c.val := by omega
      exact EReal.coe_le_coe_iff.mpr (by exact_mod_cast hn)
    · refine EReal.coe_le_coe_iff.mpr (le_trans ?_ hB)
      have hn : R.val * 128 + C.val ≤ 128 * 100 := by have := R.isLt; have := C.isLt; omega
      exact_mod_cast hn

end Cert.Maths

end
-- ==== Proof.Consts.lean ====
/- The constants the two programs print, as extended reals, and small words as numbers. -/
module

public import Idealize.ShloMosaic.PureOps.Ideal.Laws

@[expose] public section

noncomputable section

namespace Cert.Maths

open Idealize.ShloMosaic

/-- `128`. -/
theorem c128 : Ideal.ofBits .f32 0x43000000#32 = ((128 : ℝ) : EReal) := by
  simp [Ideal.ofBits, Ideal.ieee, -EReal.coe_mul]; norm_num

/-- `1 / 128`. -/
theorem c128inv : Ideal.ofBits .f32 0x3C000000#32 = ((1 / 128 : ℝ) : EReal) := by
  simp [Ideal.ofBits, Ideal.ieee, -EReal.coe_mul]; norm_num

/-- `2`. -/
theorem c2 : Ideal.ofBits .f32 0x40000000#32 = ((2 : ℝ) : EReal) := by
  simp [Ideal.ofBits, Ideal.ieee, -EReal.coe_mul]; norm_num

/-- `99`. -/
theorem c99 : Ideal.ofBits .f32 0x42C60000#32 = ((99 : ℝ) : EReal) := by
  simp [Ideal.ofBits, Ideal.ieee, -EReal.coe_mul]; norm_num

/-- `1 / 4`. -/
theorem cQuarter : Ideal.ofBits .f32 0x3E800000#32 = ((1 / 4 : ℝ) : EReal) := by
  simp [Ideal.ofBits, Ideal.ieee, -EReal.coe_mul]; norm_num

/-- `4`. -/
theorem c4 : Ideal.ofBits .f32 0x40800000#32 = ((4 : ℝ) : EReal) := by
  simp [Ideal.ofBits, Ideal.ieee, -EReal.coe_mul]; norm_num

/-- Minus infinity. -/
theorem cBot : Ideal.ofBits .f32 0xFF800000#32 = ⊥ := by simp [Ideal.ofBits, Ideal.ieee]

/-- Plus infinity. -/
theorem cTop : Ideal.ofBits .f32 0x7F800000#32 = ⊤ := by simp [Ideal.ofBits, Ideal.ieee]

/-- The key no cell has: a number far above every key. -/
theorem cBig : ∃ B : ℝ, 128 * 100 ≤ B ∧ Ideal.ofBits .f32 0x7F7FC99E#32 = ((B : ℝ) : EReal) := by
  refine ⟨(8374686 + 8388608) / 8388608 * 2 ^ 127, by norm_num, ?_⟩
  simp [Ideal.ofBits, Ideal.ieee, -EReal.coe_mul]; norm_num

/-- A small word's number. -/
theorem toInt_ofNat {n : ℕ} (h : n < 2 ^ 31) : (BitVec.ofNat 32 n).toInt = (n : ℤ) := by
  rw [BitVec.toInt_eq_toNat_of_lt (by rw [BitVec.toNat_ofNat, Nat.mod_eq_of_lt (by omega)]; omega),
    BitVec.toNat_ofNat, Nat.mod_eq_of_lt (by omega)]

/-- A small word as a float. -/
theorem sitofp_ofNat {n : ℕ} (h : n < 2 ^ 31) : FloatOps.sitofp (F := Ideal) .f32 (BitVec.ofNat 32 n) = ((n : ℝ) : EReal) := by
  show (((BitVec.ofNat 32 n).toInt : ℝ) : EReal) = _
  rw [toInt_ofNat h]; norm_cast

end Cert.Maths

end
-- ==== Proof.Loss.lean ====
/- The loss in plain numbers: what both programs compute, over the extended reals. -/
module

public import proofs.«01_k».proof.Proof.Window
public import proofs.«01_k».proof.Proof.Consts

@[expose] public section

noncomputable section

namespace Cert.Maths

open Idealize.ShloMosaic

/-- One when a value passes the threshold, zero otherwise. -/
def pass (t : EReal) : EReal := if Ideal.ofBits .f32 0x3E99999A#32 < t then 1 else 0

/-- The mean absolute difference of the boxes `p q r s` and `a b c d`. -/
def gap (a b c d p q r s : EReal) : EReal :=
  (max (p - a) (-(p - a)) + max (q - b) (-(q - b)) + max (r - c) (-(r - c)) + max (s - d) (-(s - d))) * ((1 / 4 : ℝ) : EReal)

/-- The first best cell of a grid. -/
def best (g : Fin 100 → Fin 100 → EReal) : Fin 100 × Fin 100 :=
  ((exists_first g).choose, (exists_first g).choose_spec.choose)

/-- It is one. -/
theorem best_first (g : Fin 100 → Fin 100 → EReal) : First g (best g).1 (best g).2 :=
  (exists_first g).choose_spec.choose_spec

/-- The sum of a grid `v` over the window about the first best cell of `g`, kept when the best value passes. -/
def around (g v : Fin 100 → Fin 100 → EReal) : EReal :=
  (∑ r, ∑ c, v r c * mask (best g).1 (best g).2 r c) * pass (g (best g).1 (best g).2)

/-- The number of cells of that window, kept likewise. -/
def counted (g : Fin 100 → Fin 100 → EReal) : EReal :=
  (∑ r, ∑ c, mask (best g).1 (best g).2 r c) * pass (g (best g).1 (best g).2)

variable (P : Fin 16 → Fin 80 → Fin 100 → Fin 100 → Fin 4 → EReal) (G : Fin 16 → Fin 32 → Fin 4 → EReal)
  (L : Fin 16 → Fin 32 → Fin 80)

/-- The generalised overlaps of box `n` of image `b` with the cells of its class map. -/
def overlaps (b : Fin 16) (n : Fin 32) (r c : Fin 100) : EReal :=
  giou (G b n 0) (G b n 1) (G b n 2) (G b n 3) (P b (L b n) r c 0) (P b (L b n) r c 1) (P b (L b n) r c 2) (P b (L b n) r c 3)

/-- The mean absolute differences likewise. -/
def gaps (b : Fin 16) (n : Fin 32) (r c : Fin 100) : EReal :=
  gap (G b n 0) (G b n 1) (G b n 2) (G b n 3) (P b (L b n) r c 0) (P b (L b n) r c 1) (P b (L b n) r c 2) (P b (L b n) r c 3)

/-- The number of counted cells, one at least. -/
def cellCount : EReal := max (∑ b, ∑ n, counted (overlaps P G L b n)) 1

/-- The loss: the mean difference plus twice the mean lack of overlap. -/
def loss : EReal :=
  Ideal.div (∑ b, ∑ n, around (overlaps P G L b n) (gaps P G L b n)) (cellCount P G L)
    + Ideal.ofBits .f32 0x40000000#32
      * Ideal.div (∑ b, ∑ n, around (overlaps P G L b n) fun r c => 1 - overlaps P G L b n r c) (cellCount P G L)

/-- What is assumed of the boxes: the predicted ones' corners are in order, and the boxes `G` are finite. -/
structure Ordered : Prop where
  /-- The predicted boxes' first corner is not past the second. -/
  pred : ∀ b l r c, P b l r c 0 ≤ P b l r c 2 ∧ P b l r c 1 ≤ P b l r c 3
  /-- The boxes `G` are real numbers. -/
  real : ∀ b n k, ∃ x : ℝ, G b n k = (x : EReal)

variable {P G}

/-- Under it the enclosing box needs no clipping. -/
theorem Ordered.hull_eq (h : Ordered P G) (b : Fin 16) (n : Fin 32) (p q r s : EReal) (hr : p ≤ r) (hs : q ≤ s) :
    hullClipped (G b n 0) (G b n 1) (G b n 2) (G b n 3) p q r s = hull (G b n 0) (G b n 1) (G b n 2) (G b n 3) p q r s := by
  obtain ⟨x0, e0⟩ := h.real b n 0
  obtain ⟨x1, e1⟩ := h.real b n 1
  obtain ⟨x2, e2⟩ := h.real b n 2
  obtain ⟨x3, e3⟩ := h.real b n 3
  rw [e0, e1, e2, e3]
  exact Maths.hull_eq _ _ _ _ _ _ _ _ hr hs

/-- And the overlaps of one box are never plus infinity, or never minus infinity. -/
theorem Ordered.oneSided (h : Ordered P G) (b : Fin 16) (n : Fin 32) : OneSided (overlaps P G L b n) := by
  obtain ⟨x0, e0⟩ := h.real b n 0
  obtain ⟨x1, e1⟩ := h.real b n 1
  obtain ⟨x2, e2⟩ := h.real b n 2
  obtain ⟨x3, e3⟩ := h.real b n 3
  have hp := h.pred b (L b n)
  unfold OneSided overlaps
  rw [e0, e1, e2, e3]
  exact (giou_oneSided x0 x1 x2 x3).imp (fun H r c => H _ _ _ _ (hp r c).1 (hp r c).2) (fun H r c => H _ _ _ _ (hp r c).1 (hp r c).2)

end Cert.Maths

end
-- ==== Proof.RowValue.lean ====
/- What one row of the kernel's output block holds in its first three lanes, over the extended reals. -/
module

public import proofs.«01_k».proof.Proof.Row
public import proofs.«01_k».proof.Proof.Loss
public import Idealize.ShloMosaic.Lib.Pointwise

@[expose] public section

set_option maxRecDepth 16384

noncomputable section

namespace Cert.KernelIdeal.Row

open Idealize.ShloMosaic Idealize.ShloMosaic.TcCoe Idealize.SL.Sem Cert.KernelIdeal.Gen Cert.Maths

variable {g : FVec Ideal S100x100 .f32} {R C : Fin 100}

/-- The greatest value is the first best cell's. -/
theorem top_apply (h : First (fun r c => g (ix2 r c)) R C) : top g (ix2 0 0) = g (ix2 R C) := by
  pointwise [top]
  rw [cBot]
  exact fold_max _ h

/-- The key is the first best cell's. -/
theorem key_apply (h : First (fun r c => g (ix2 r c)) R C) :
    key g (ix2 0 0) = (((R.val : ℝ) * 128 + C.val : ℝ) : EReal) := by
  obtain ⟨B, hB, e⟩ := cBig
  rw [← fold_key _ h B hB]
  pointwise [key, least, spread, rowIx, colIx, all]
  rw [cTop, top_apply h, c128, e]
  congr 1; funext c; congr 1; funext r
  rw [sitofp_ofNat (by omega), sitofp_ofNat (by omega)]
  rfl

/-- The key's row. -/
theorem keyRow_apply {k : FVec Ideal S1x1 .f32} (hk : k (ix2 0 0) = (((R.val : ℝ) * 128 + C.val : ℝ) : EReal)) :
    keyRow k (ix2 0 0) = ((R.val : ℝ) : EReal) := by
  pointwise [keyRow, one]
  rw [hk, c128inv, ← EReal.coe_mul]
  show ((⌊_⌋ : ℝ) : EReal) = _
  have : ⌊((R.val : ℝ) * 128 + C.val) * (1 / 128)⌋ = (R.val : ℤ) := by
    rw [Int.floor_eq_iff]
    have h0 : (0 : ℝ) ≤ C.val := by positivity
    have h1 : (C.val : ℝ) < 128 := by exact_mod_cast (by omega : C.val < 128)
    push_cast
    constructor <;> linarith
  rw [this]; norm_cast

/-- The key's column. -/
theorem keyCol_apply {k : FVec Ideal S1x1 .f32} (hk : k (ix2 0 0) = (((R.val : ℝ) * 128 + C.val : ℝ) : EReal)) :
    keyCol k (ix2 0 0) = ((C.val : ℝ) : EReal) := by
  have := keyRow_apply hk
  pointwise [keyCol, one]
  rw [hk, this, c128, ← EReal.coe_mul, ← EReal.coe_sub]
  congr 1; ring

/-- Being near a coordinate, on the grid's row numbers and on its column numbers. -/
theorem near_apply {v : FVec Ideal S1x1 .f32} {ix : FVec Ideal S100x100 .f32} {r c n : Fin 100}
    (hv : v (ix2 0 0) = ((R.val : ℝ) : EReal)) (hi : ix (ix2 r c) = ((n.val : ℝ) : EReal)) :
    near ix v (ix2 r c) = BitVec.ofBool (decide (Maths.near R n)) := by
  pointwise [near, one, spread]
  rw [hv, hi, c2, c99, ← EReal.coe_sub]
  have e1 : decide ((((R.val : ℝ) - 2 : ℝ) : EReal) ≤ ((n.val : ℝ) : EReal)) = decide (R.val ≤ n.val + 2) := by
    apply decide_eq_decide.mpr
    rw [EReal.coe_le_coe_iff, sub_le_iff_le_add]; exact_mod_cast Iff.rfl
  have e2 : decide (((n.val : ℝ) : EReal) ≤ min (((R.val : ℝ) : EReal) + 1) ((99 : ℝ) : EReal)) = decide (n.val ≤ R.val + 1) := by
    apply decide_eq_decide.mpr
    rw [le_min_iff, show ((R.val : ℝ) : EReal) + 1 = ((R.val + 1 : ℝ) : EReal) from rfl, EReal.coe_le_coe_iff, EReal.coe_le_coe_iff]
    have h99 : (n.val : ℝ) ≤ 99 := by exact_mod_cast (by omega : n.val ≤ 99)
    rw [and_iff_left h99]; exact_mod_cast Iff.rfl
  rw [e1, e2]
  have e : decide (Maths.near R n) = (decide (R.val ≤ n.val + 2) && decide (n.val ≤ R.val + 1)) := Bool.decide_and ..
  rw [e]
  cases decide (R.val ≤ n.val + 2) <;> cases decide (n.val ≤ R.val + 1) <;> rfl

/-- The window about the first best cell. -/
theorem window_apply (h : First (fun r c => g (ix2 r c)) R C) (r c : Fin 100) :
    window (key g) (ix2 r c) = mask R C r c := by
  have e1 := near_apply (ix := rowIx) (r := r) (c := c) (n := r) (keyRow_apply (key_apply h)) (by
    pointwise [rowIx]; exact sitofp_ofNat (by omega))
  have e2 := near_apply (ix := colIx) (r := r) (c := c) (n := c) (keyCol_apply (key_apply h)) (by
    pointwise [colIx]; exact sitofp_ofNat (by omega))
  pointwise [window, all]
  rw [e1, e2, mask]
  by_cases h1 : Maths.near R r <;> by_cases h2 : Maths.near C c <;> simp [h1, h2] <;> rfl

/-- One side of the window. -/
theorem span_apply {v : FVec Ideal S1x1 .f32} (hv : v (ix2 0 0) = ((R.val : ℝ) : EReal)) :
    span v (ix2 0 0) = ((Maths.span R : ℝ) : EReal) := by
  pointwise [span, one]
  rw [hv, c2, c99, ← span_real]
  have m1 : ∀ x y : ℝ, ((min x y : ℝ) : EReal) = min (x : EReal) y := fun x y => EReal.coe_strictMono.monotone.map_min
  have m2 : ∀ x y : ℝ, ((max x y : ℝ) : EReal) = max (x : EReal) y := fun x y => EReal.coe_strictMono.monotone.map_max
  rw [EReal.coe_add, EReal.coe_sub, m1, m2]
  rfl

/-- The number of cells in the window. -/
theorem cells_apply (h : First (fun r c => g (ix2 r c)) R C) :
    cells (key g) (ix2 0 0) = ∑ r, ∑ c, mask R C r c := by
  have e1 := span_apply (keyRow_apply (key_apply h))
  have e2 := span_apply (keyCol_apply (key_apply h))
  pointwise [cells]
  rw [e1, e2, sum_mask, ← EReal.coe_mul]
  norm_cast

/-- A total over the window. -/
theorem total_apply (h : First (fun r c => g (ix2 r c)) R C) (l : FVec Ideal S100x100 .f32) :
    total (mulf l (window (key g))) (ix2 0 0) = ∑ r, ∑ c, l (ix2 r c) * mask R C r c := by
  rw [Finset.sum_comm]
  pointwise [total]
  refine Finset.sum_congr rfl fun c _ => Finset.sum_congr rfl fun r _ => ?_
  rw [window_apply h]

/-- Whether the greatest value passes the threshold. -/
theorem valid_apply (h : First (fun r c => g (ix2 r c)) R C) : valid g (ix2 0 0) = pass (g (ix2 R C)) := by
  have e := top_apply h
  pointwise [valid, one]
  rw [e]; rfl

/-- Lane 0: the distances over the window. -/
theorem rowOf_zero (h : First (fun r c => g (ix2 r c)) R C) (l : FVec Ideal S100x100 .f32) :
    rowOf g l (ix2 0 0) = (∑ r, ∑ c, l (ix2 r c) * mask R C r c) * pass (g (ix2 R C)) := by
  have e1 := total_apply h l
  have e2 := valid_apply h
  pointwise [rowOf, lane, lanes]
  rw [e1, e2]
  simp [Scalar.select, IntOp.cmpi]

/-- Lane 1: the losses over the window. -/
theorem rowOf_one (h : First (fun r c => g (ix2 r c)) R C) (hg : OneSided fun r c => g (ix2 r c)) (l : FVec Ideal S100x100 .f32) :
    rowOf g l (ix2 0 1) = (∑ r, ∑ c, (1 - g (ix2 r c)) * mask R C r c) * pass (g (ix2 R C)) := by
  have e1 := total_apply h g
  have e2 := valid_apply h
  have e3 := cells_apply h
  rw [loss_eq _ hg]
  pointwise [rowOf, lane, lanes]
  rw [e1, e2, e3]
  simp [Scalar.select, IntOp.cmpi]

/-- Lane 2: the number of cells in the window. -/
theorem rowOf_two (h : First (fun r c => g (ix2 r c)) R C) (l : FVec Ideal S100x100 .f32) :
    rowOf g l (ix2 0 2) = (∑ r, ∑ c, mask R C r c) * pass (g (ix2 R C)) := by
  have e2 := valid_apply h
  have e3 := cells_apply h
  pointwise [rowOf, lane, lanes]
  rw [e2, e3]
  simp [Scalar.select, IntOp.cmpi]

/-- The generalised overlap, cell by cell. -/
theorem giou_apply (a b c d : EReal) (p q r s : FVec Ideal S100x100 .f32) (i j : Fin 100) :
    giou (F := Ideal) a b c d p q r s (ix2 i j) = Maths.giou a b c d (p (ix2 i j)) (q (ix2 i j)) (r (ix2 i j)) (s (ix2 i j)) := by
  pointwise [giou, inter, union, hull, all, Maths.giou, Maths.overlap, Maths.inter, Maths.union, Maths.hull]

/-- The distance, cell by cell. -/
theorem dist_apply (a b c d : EReal) (p q r s : FVec Ideal S100x100 .f32) (i j : Fin 100) :
    dist (F := Ideal) a b c d p q r s (ix2 i j) = Maths.gap a b c d (p (ix2 i j)) (q (ix2 i j)) (r (ix2 i j)) (s (ix2 i j)) := by
  pointwise [dist, all]
  rw [cQuarter]; rfl

end Cert.KernelIdeal.Row

end
-- ==== Proof.Tail.lean ====
/- The host's part of the kernel's program: the arrays it hands the region, and the loss from the region's output. -/
module

public import proofs.«01_k».proof.Proof.TableKernelIdeal
public import proofs.«01_k».proof.Proof.Loss
public import Idealize.ShloMosaic.Lib.Pointwise

@[expose] public section

set_option maxRecDepth 16384

noncomputable section

namespace Cert.KernelIdeal.Host

open Cert.KernelIdeal Cert.KernelIdeal.Gen Idealize.ShloMosaic Idealize.ShloMosaic.TcCoe Idealize.SL.Sem Idealize.SL.RA
  Idealize.ShloMosaic.StableHlo Cert.Maths

/-- The loss from the output of the region: the first three lanes, summed over every box. -/
theorem total_apply (V : Valuation τ sig (Elt Ideal)) : (after hostOps1 V (Proc.devRef .tc main_v19) : FVec Ideal S_ .f32) Idealize.ShloMosaic.ix0 =
    let o := fun b n l => (V (Proc.devRef .tc main_v4) : FVec Ideal S16x32x128 .f32) (ix3 b n l)
    Ideal.div (∑ b, ∑ n, o b n 0) (max (∑ b, ∑ n, o b n 2) 1)
      + Ideal.ofBits .f32 0x40000000#32 * Ideal.div (∑ b, ∑ n, o b n 1) (max (∑ b, ∑ n, o b n 2) 1) := by
  simp only [hostOps1, TRef.binary, TRef.nullary, TRef.ternary, TRef.unary, TRef.quaternary, TRef.toBuf, TRef.ofBuf, cast_eq]
  after_results_simp
  pointwise

variable (m : (ℓ : Loc nD τ sig) → Buf (Elt Ideal) ℓ)

/-- The maps as the region gets them: a cell's coordinates are four successive rows. -/
theorem maps_apply (c : Dev nD) (b : Fin 16) (l : Fin 80) (r q : Fin 100) (k : Fin 4) :
    (V m c main_v1 : FVec Ideal S16x80x400x100 .f32) (ix4 b l ⟨4 * r.val + k.val, by omega⟩ q)
      = (m ((c.tc : Thread nD τ).loc main_arg0) : FVec Ideal S16x80x100x100x4 .f32) (ix5 b l r q k) := by
  dsimp only [V, V0]
  simp only [hostOps0, List.flatten_cons, List.flatten_nil, List.append_nil, List.cons_append, List.nil_append]
  after_results
  pointwise

/-- The boxes as the region gets them: one after another. -/
theorem boxes_apply (c : Dev nD) (b : Fin 16) (n : Fin 32) (k : Fin 4) :
    (V m c main_v2 : FVec Ideal S2048 .f32) (ix1 ⟨128 * b.val + 4 * n.val + k.val, by omega⟩)
      = (m ((c.tc : Thread nD τ).loc main_arg1) : FVec Ideal S16x32x4 .f32) (ix3 b n k) := by
  dsimp only [V, V0]
  simp only [hostOps0, List.flatten_cons, List.flatten_nil, List.append_nil, List.cons_append, List.nil_append]
  after_results
  pointwise

end Cert.KernelIdeal.Host

end
-- ==== Proof.Value.lean ====
/- The value of the kernel's program: its output's block at every grid point, the array the region leaves, and the result. -/
module

public import proofs.«01_k».proof.Proof.Block
public import proofs.«01_k».proof.Proof.RowValue
public import proofs.«01_k».proof.Proof.Tail

@[expose] public section

set_option maxRecDepth 16384

noncomputable section

namespace Cert.KernelIdeal.Value

open Idealize.ShloMosaic Idealize.ShloMosaic.TcCoe Idealize.SL.Sem Idealize.SL.RA Idealize.ShloMosaic.Pipeline
open Cert.KernelIdeal Cert.KernelIdeal.Gen Cert.KernelIdeal.Row Cert.KernelIdeal.Region Cert.KernelIdeal.Table
open Cert.KernelIdeal.Block Cert.Maths

/-- A plane of a map as a grid. -/
theorem grid_apply (x : Vec Ideal S1x1x400x100 .f32) (j : Fin 4) (r c : Fin 100) :
    grid (layer j x) (ix2 r c) = x (ix4 (0 : Fin 1) (0 : Fin 1) ⟨4 * r.val + j.val, by omega⟩ c) := by
  have h : ∀ p : Vec Ideal S1x1x100x100 .f32, grid p (ix2 r c) = p (ix4 (0 : Fin 1) (0 : Fin 1) r c) := fun p => by
    pointwise [grid]
  rw [h]
  rfl

/-- The three lanes of the row of a box. -/
theorem boxRow_lanes (i : grid0.Coords) (k : Fin 32) (x : Vec Ideal S1x1x400x100 .f32) (w : Vec Ideal S2048 .f32)
    (Q : Fin 100 → Fin 100 → Fin 4 → EReal) (T : Fin 4 → EReal)
    (hx : ∀ (j : Fin 4) (r c : Fin 100), x (ix4 (0 : Fin 1) (0 : Fin 1) ⟨4 * r.val + j.val, by omega⟩ c) = Q r c j)
    (hw : ∀ j, corner i k j w = T j) {g v : Fin 100 → Fin 100 → EReal}
    (hg : ∀ r c, Maths.giou (T 0) (T 1) (T 2) (T 3) (Q r c 0) (Q r c 1) (Q r c 2) (Q r c 3) = g r c)
    (hv : ∀ r c, gap (T 0) (T 1) (T 2) (T 3) (Q r c 0) (Q r c 1) (Q r c 2) (Q r c 3) = v r c)
    (ht : OneSided g) :
    boxRow i k x w (ix2 0 0) = around g v ∧ boxRow i k x w (ix2 0 1) = around g (fun r c => 1 - g r c)
      ∧ boxRow i k x w (ix2 0 2) = counted g := by
  have eg : ∀ r c, Row.giou (corner i k 0 w) (corner i k 1 w) (corner i k 2 w) (corner i k 3 w) (grid (layer 0 x)) (grid (layer 1 x))
      (grid (layer 2 x)) (grid (layer 3 x)) (ix2 r c) = g r c := fun r c => by
    rw [giou_apply, grid_apply, grid_apply, grid_apply, grid_apply, hx, hx, hx, hx, hw, hw, hw, hw, hg]
  have ev : ∀ r c, Row.dist (corner i k 0 w) (corner i k 1 w) (corner i k 2 w) (corner i k 3 w) (grid (layer 0 x)) (grid (layer 1 x))
      (grid (layer 2 x)) (grid (layer 3 x)) (ix2 r c) = v r c := fun r c => by
    rw [dist_apply, grid_apply, grid_apply, grid_apply, grid_apply, hx, hx, hx, hx, hw, hw, hw, hw, hv]
  have hf : First (fun r c => Row.giou (corner i k 0 w) (corner i k 1 w) (corner i k 2 w) (corner i k 3 w) (grid (layer 0 x)) (grid (layer 1 x))
      (grid (layer 2 x)) (grid (layer 3 x)) (ix2 r c)) (best g).1 (best g).2 := by
    simp only [eg]; exact best_first g
  unfold boxRow row
  refine ⟨?_, ?_, ?_⟩
  · rw [rowOf_zero hf]; simp only [eg, ev]; rfl
  · rw [rowOf_one hf (by simp only [eg]; exact ht)]; simp only [eg]; rfl
  · rw [rowOf_two hf]; simp only [eg]; rfl

variable (m : (ℓ : Loc nD τ sig) → Buf (Elt Ideal) ℓ)

/-- The label of box `k` of image `i`. -/
theorem label_eq (i : grid0.Coords) (k : Fin 32) :
    label (tbl m) i k = (m (((0 : Dev nD) : Thread nD τ).loc main_arg2) : IVec S16x32 32) (ix2 (i 0 : Fin 16) k) := by
  have hi : (i 0).val < 16 := (i 0).isLt
  have e : label (tbl m) i k = (tbl m 0 : IVec S512 32) (ix1 ⟨32 * (i 0).val + k.val, by omega⟩) := by
    refine congrArg (tbl m 0 : IVec S512 32) (funext fun a => Fin.ext ?_)
    match a with
    | ⟨0, _⟩ =>
      show k0_off1 i (BitVec.ofNat 32 k.val) 0 + 1 * 0 = 32 * (i 0).val + k.val
      rw [k0_off1_eq]; rfl
  rw [e, tbl_eq]
  have h : ∀ (x : IVec S16x32 32) (b : Fin 16), shapeCast S512 x shapeCasts_S16x32_S512 (ix1 ⟨32 * b.val + k.val, by omega⟩) = x (ix2 b k) :=
    fun x b => by pointwise
  exact h _ (i 0)

/-- The point of image `b`. -/
def point (b : Fin 16) : grid0.Coords := fun a => match a with | ⟨0, _⟩ => b

/-- The grid's points are the images in order. -/
theorem coords_eq : ∀ t : Fin grid0.N, (grid0.coords t 0).val = t.val := by decide +kernel

/-- So the point of a grid point's image is that point. -/
theorem point_coords (t : Fin grid0.N) : point (grid0.coords t 0) = grid0.coords t := by
  funext a
  match a with
  | ⟨0, _⟩ => rfl

/-- The output's block at a point is the image's. -/
theorem at_33 : ∀ t : Fin grid0.N, cc0_transform_33 (grid0.coords t) = ![t.val, 0, 0] := by decide +kernel

/-- An array by its coordinates. -/
def laid (O : Fin 16 → Fin 32 → Fin 128 → EReal) : FVec Ideal S16x32x128 .f32 := fun y => O (y 0) (y 1) (y 2)

/-- Where a cell of the output's block lies. -/
theorem placed (hO : Ok m) (t : Fin (cfgM m hO).N) (y : S1x32x128.Idx) (a : Fin 3) :
    ((((cfgM m hO).win 33).blk t).view.emb y a).val = (![t.val, (y 1).val, (y 2).val] : Fin 3 → ℕ) a := by
  have e : ((((cfgM m hO).win 33).blk t).view.emb y a).val = cc0_transform_33 (grid0.coords t) a * S1x32x128.size a + 1 * (y a).val := rfl
  rw [e, at_33 t]
  have h0 : (y 0).val < 1 := (y 0).isLt
  match a with
  | 0 => show t.val * 1 + 1 * (y 0).val = t.val; omega
  | 1 => show 0 * 32 + 1 * (y 1).val = (y 1).val; omega
  | 2 => show 0 * 128 + 1 * (y 2).val = (y 2).val; omega

/-- A block that holds an array's entries holds them where they lie. -/
theorem block_value (hO : Ok m) (c : Dev nD) (O : Fin 16 → Fin 32 → Fin 128 → EReal)
    (h : ∀ (t : Fin (cfgM m hO).N) (k : Fin 32) (l : Fin 128), outAt m hO c t (ix3 (0 : Fin 1) k l) = O (grid0.coords t 0) k l)
    (t : Fin (cfgM m hO).N) (y : S1x32x128.Idx) : outAt m hO c t y = laid O ((((cfgM m hO).win 33).blk t).view.emb y) := by
  have hy : y = ix3 (0 : Fin 1) (y 1 : Fin 32) (y 2 : Fin 128) := funext fun a => Fin.ext (by
    match a with
    | 0 => have : (y 0).val < 1 := (y 0).isLt; show (y 0).val = 0; omega
    | 1 => rfl
    | 2 => rfl)
  refine (congrArg (outAt m hO c t) hy).trans ((h t (y 1) (y 2)).trans ?_)
  have e0 : grid0.coords t 0 = ((((cfgM m hO).win 33).blk t).view.emb y (0 : Fin 3) : Fin 16) :=
    Fin.ext ((coords_eq t).trans (placed m hO t y 0).symm)
  have e1 : (y 1 : Fin 32) = ((((cfgM m hO).win 33).blk t).view.emb y (1 : Fin 3) : Fin 32) := Fin.ext (placed m hO t y 1).symm
  have e2 : (y 2 : Fin 128) = ((((cfgM m hO).win 33).blk t).view.emb y (2 : Fin 3) : Fin 128) := Fin.ext (placed m hO t y 2).symm
  rw [e0, e1, e2]
  rfl

/-- Every cell of the output lies in a block. -/
theorem block_cover (hO : Ok m) (i : S16x32x128.Idx) :
    ∃ t : Fin (cfgM m hO).N, ((cfgM m hO).win 33).flush t = true ∧ i ∈ (((cfgM m hO).win 33).blk t).view.set := by
  have hi : (i 0).val < 16 := (i 0).isLt
  let t : Fin (cfgM m hO).N := ⟨(i 0).val, hi⟩
  refine ⟨t, flush0_33 (adm m hO) t, ?_⟩
  have ek : ∀ a : Fin 3, (![t.val, (i 1).val, (i 2).val] : Fin 3 → ℕ) a = (i a).val := fun a => by
    match a with
    | 0 => rfl
    | 1 => rfl
    | 2 => rfl
  have e : (((cfgM m hO).win 33).blk t).view.emb (ix3 (0 : Fin 1) (i 1 : Fin 32) (i 2 : Fin 128) : S1x32x128.Idx) = i :=
    funext fun a => Fin.ext ((placed m hO t (ix3 (0 : Fin 1) (i 1 : Fin 32) (i 2 : Fin 128)) a).trans (ek a))
  rw [← e]
  exact View.emb_mem_set _ _

set_option maxHeartbeats 2000000 in
/-- The output of the region, block by block. -/
theorem array_eq (hO : Ok m) (c : Dev nD) (O : Fin 16 → Fin 32 → Fin 128 → EReal)
    (h : ∀ (t : Fin (cfgM m hO).N) (k : Fin 32) (l : Fin 128), outAt m hO c t (ix3 (0 : Fin 1) k l) = O (grid0.coords t 0) k l) :
    (dats m hO 0 c).arrAt 33 (cfgM m hO).N = laid O := by
  refine (dats m hO 0 c).arrAt_eq_of_emb 33 (laid O) (fun t hf y => ?_) (fun i => block_cover m hO i)
  rw [after_out]
  exact block_value m hO c O h t y

/-- The lanes the region leaves, from the rows of the boxes. -/
def outLane (hl : ∀ y : S512.Idx, (tbl m 0 y : BitVec 32).toNat < 80) (c : Dev nD) (b : Fin 16) (n : Fin 32) (l : Fin 128) : EReal :=
  boxRow (point b) n (classMap m hl c (point b) n) (V m c main_v2) (ix2 (0 : Fin 1) l)

/-- The output of the region is these lanes. -/
theorem output_eq (hO : Ok m) (hl : ∀ y : S512.Idx, (tbl m 0 y : BitVec 32).toNat < 80) (c : Dev nD) :
    (dats m hO 0 c).arrAt 33 (cfgM m hO).N = laid (outLane m hl c) :=
  array_eq m hO c (outLane m hl c) fun t k l => by
    rw [outAt_apply m hO hl c t k l, ← point_coords t]
    rfl

/-- The result of the program once the lines after the region have run. -/
theorem final_apply (hO : Ok m) (hl : ∀ y : S512.Idx, (tbl m 0 y : BitVec 32).toNat < 80) (c : Dev nD) :
    (final m hO c main_v19 : FVec Ideal S_ .f32) Idealize.ShloMosaic.ix0 =
      Ideal.div (∑ b, ∑ n, outLane m hl c b n 0) (max (∑ b, ∑ n, outLane m hl c b n 2) 1)
        + Ideal.ofBits .f32 0x40000000#32 * Ideal.div (∑ b, ∑ n, outLane m hl c b n 1) (max (∑ b, ∑ n, outLane m hl c b n 2) 1) := by
  unfold final Pipeline.afterTail
  have e : Pipeline.withArrays spec0 c (V0 m c) (fun w => (dats m hO 0 c).arrAt w (cfgM m hO).N) (Proc.devRef .tc main_v4) = laid (outLane m hl c) := by
    rw [← output_eq m hO hl c]
    exact Pipeline.withArrays_arr_shared spec0 c (V0 m c) (fun w => (dats m hO 0 c).arrAt w (cfgM m hO).N)
      (Pipeline.Dat.arrAt_sharedIn (dats m hO 0 c) sharedIn0 (V0 m c) (dats_A m hO c) _) 33
  refine (Host.total_apply _).trans ?_
  rw [show (Pipeline.withArrays spec0 c (V0 m c) (fun w => (dats m hO 0 c).arrAt w (cfgM m hO).N) (Proc.devRef .tc main_v4)
    : FVec Ideal S16x32x128 .f32) = laid (outLane m hl c) from e]
  rfl

variable {P : Fin 16 → Fin 80 → Fin 100 → Fin 100 → Fin 4 → EReal} {G : Fin 16 → Fin 32 → Fin 4 → EReal} {L : Fin 16 → Fin 32 → Fin 80}

/-- The lanes of a box are the terms of the loss. -/
theorem outLane_eq (hl : ∀ y : S512.Idx, (tbl m 0 y : BitVec 32).toNat < 80) (c : Dev nD)
    (hP : ∀ b l r q k, (m ((c.tc : Thread nD τ).loc main_arg0) : FVec Ideal S16x80x100x100x4 .f32) (ix5 b l r q k) = P b l r q k)
    (hG : ∀ b n k, (m ((c.tc : Thread nD τ).loc main_arg1) : FVec Ideal S16x32x4 .f32) (ix3 b n k) = G b n k)
    (hL : ∀ b n, (m (((0 : Dev nD) : Thread nD τ).loc main_arg2) : IVec S16x32 32) (ix2 b n) = BitVec.ofNat 32 (L b n).val)
    (ho : Ordered P G) (b : Fin 16) (n : Fin 32) :
    outLane m hl c b n 0 = around (overlaps P G L b n) (gaps P G L b n)
      ∧ outLane m hl c b n 1 = around (overlaps P G L b n) (fun r q => 1 - overlaps P G L b n r q)
      ∧ outLane m hl c b n 2 = counted (overlaps P G L b n) := by
  have eL : ∀ h, (⟨(label (tbl m) (point b) n).toNat, h⟩ : Fin 80) = L b n := fun h => Fin.ext (by
    have e : label (tbl m) (point b) n = BitVec.ofNat 32 (L b n).val := (label_eq m (point b) n).trans (hL b n)
    show (label (tbl m) (point b) n).toNat = (L b n).val
    rw [e, BitVec.toNat_ofNat, Nat.mod_eq_of_lt (by have := (L b n).isLt; omega)])
  refine boxRow_lanes (point b) n (classMap m hl c (point b) n) (V m c main_v2) (fun r q k => P b (L b n) r q k) (G b n)
    (fun j r q => ?_) (fun j => ?_) (fun _ _ => rfl) (fun _ _ => rfl) (ho.oneSided L b n)
  · refine Eq.trans ?_ (hP b (L b n) r q j)
    refine Eq.trans ?_ (Host.maps_apply m c b (L b n) r q j)
    rw [← eL (hl _)]
    rfl
  · exact (Host.boxes_apply m c b n j).trans (hG b n j)

/-- The program's result is the loss. -/
theorem final_eq (hO : Ok m) (hl : ∀ y : S512.Idx, (tbl m 0 y : BitVec 32).toNat < 80) (c : Dev nD)
    (hP : ∀ b l r q k, (m ((c.tc : Thread nD τ).loc main_arg0) : FVec Ideal S16x80x100x100x4 .f32) (ix5 b l r q k) = P b l r q k)
    (hG : ∀ b n k, (m ((c.tc : Thread nD τ).loc main_arg1) : FVec Ideal S16x32x4 .f32) (ix3 b n k) = G b n k)
    (hL : ∀ b n, (m (((0 : Dev nD) : Thread nD τ).loc main_arg2) : IVec S16x32 32) (ix2 b n) = BitVec.ofNat 32 (L b n).val)
    (ho : Ordered P G) : (final m hO c main_v19 : FVec Ideal S_ .f32) = fun _ => loss P G L := by
  have h := outLane_eq m hl c hP hG hL ho
  funext i
  obtain rfl : i = Idealize.ShloMosaic.ix0 := funext fun a => a.elim0
  rw [final_apply m hO hl c]
  simp only [fun b n => (h b n).1, fun b n => (h b n).2.1, fun b n => (h b n).2.2]
  rfl

end Cert.KernelIdeal.Value

end
-- ==== Proof.Given.lean ====
/- What the predicate on the inputs says of them, entry by entry. -/
module

public import proofs.«01_k».proof.Proof.Words
public import proofs.«01_k».proof.Proof.Loss
public import Idealize.ShloMosaic.Lib.Pointwise

@[expose] public section

set_option maxRecDepth 16384

noncomputable section

namespace Cert.Words

open Idealize.ShloMosaic Cert.Maths

/-- A comparison that holds, as a word. -/
theorem of_ofBool {p : Prop} [Decidable p] (h : BitVec.ofBool (decide p) = 1#1) : p := by
  by_contra hp
  rw [decide_eq_false hp] at h
  exact absurd h (by decide)

/-- A number whose magnitude is below plus infinity is real. -/
theorem real_of_abs {x : EReal} (h : max x (-x) < ⊤) : ∃ y : ℝ, x = (y : EReal) := by
  induction x using EReal.rec with
  | bot => simp at h
  | coe y => exact ⟨y, rfl⟩
  | top => simp at h

/-- Inputs which the predicate admits are in order. -/
theorem ordered_of_pre (x : FVec Ideal Cert.Pre_predictions_ordered.S16x80x100x100x4 .f32) (y : FVec Ideal Cert.Pre_predictions_ordered.S16x32x4 .f32)
    (l : IVec Cert.Pre_predictions_ordered.S16x32 32)
    (h2 : (Cert.Pre_predictions_ordered.fn x y l).2.1 = fun _ => 1#1) (h3 : (Cert.Pre_predictions_ordered.fn x y l).2.2 = fun _ => 1#1) :
    Ordered (fun b l r c k => x (ix5 b l r c k)) (fun b n k => y (ix3 b n k)) where
  pred b l r c := by
    have e0 := congrFun h2 (ix5 b l r c (0 : Fin 2))
    have e1 := congrFun h2 (ix5 b l r c (1 : Fin 2))
    simp only [Pre_predictions_ordered.fn] at e0 e1
    pointwise at e0 e1
    exact ⟨of_ofBool e0, of_ofBool e1⟩
  real b n k := by
    have e := congrFun h3 (ix3 b n k)
    simp only [Pre_predictions_ordered.fn] at e
    pointwise at e
    rw [cTop] at e
    exact real_of_abs (of_ofBool e)

end Cert.Words

end
-- ==== Proof.Best.lean ====
/- The reference's two operations read by hand: the gather of each box's class map, and the first cell of greatest overlap. -/
module

public import proofs.«01_k».proof.Proof.RefOps
public import proofs.«01_k».proof.Proof.Window
public import proofs.«01_k».proof.Proof.Consts
public import Idealize.ShloMosaic.Lib.Pointwise

@[expose] public section

set_option maxRecDepth 16384

noncomputable section

namespace Cert.ReferenceIdeal.Ops

open Cert.ReferenceIdeal Cert.ReferenceIdeal.Gen Idealize.ShloMosaic Idealize.ShloMosaic.TcCoe Idealize.SL.Sem
  Idealize.ShloMosaic.StableHlo Cert.Maths

variable {F : FTy → Type} [FloatOps F]

/-- Gathering at a pair of numbers that are in range: the map they name, cell by cell. -/
theorem gather_apply (x : FVec F S16x80x100x100x4 .f32) (idx : IVec S16x32x2 32) (b : Fin 16) (n : Fin 32) (i : Fin 16) (l : Fin 80)
    (hi : idx (ix3 b n 0) = BitVec.ofNat 32 i.val) (hl : idx (ix3 b n 1) = BitVec.ofNat 32 l.val) (r c : Fin 100) (k : Fin 4) :
    Host.gather gather_S16x80x100x100x4_S16x32x2_S16x32x100x100x4_234_01_n_n_01_2_111001004 x idx (ix5 b n r c k) =
      x (ix5 i l r c k) := by
  unfold Host.gather
  congr 1
  have h0 : GatherDims.siIdx gather_S16x80x100x100x4_S16x32x2_S16x32x100x100x4_234_01_n_n_01_2_111001004 (ix5 b n r c k) ⟨0, by decide⟩ = ix3 b n 0 := by
    funext a; refine Fin.ext ?_
    match a with
    | ⟨0, _⟩ => rfl
    | ⟨1, _⟩ => rfl
    | ⟨2, _⟩ => rfl
  have h1 : GatherDims.siIdx gather_S16x80x100x100x4_S16x32x2_S16x32x100x100x4_234_01_n_n_01_2_111001004 (ix5 b n r c k) ⟨1, by decide⟩ = ix3 b n 1 := by
    funext a; refine Fin.ext ?_
    match a with
    | ⟨0, _⟩ => rfl
    | ⟨1, _⟩ => rfl
    | ⟨2, _⟩ => rfl
  funext a; refine Fin.ext ?_
  match a with
  | ⟨0, _⟩ =>
    show min (idx (GatherDims.siIdx gather_S16x80x100x100x4_S16x32x2_S16x32x100x100x4_234_01_n_n_01_2_111001004 (ix5 b n r c k) ⟨0, by decide⟩)).toInt.toNat 15 + 0 + 0 = i.val
    rw [h0, hi, toInt_ofNat (by omega)]; omega
  | ⟨1, _⟩ =>
    show min (idx (GatherDims.siIdx gather_S16x80x100x100x4_S16x32x2_S16x32x100x100x4_234_01_n_n_01_2_111001004 (ix5 b n r c k) ⟨1, by decide⟩)).toInt.toNat 79 + 0 + 0 = l.val
    rw [h1, hl, toInt_ofNat (by omega)]; omega
  | ⟨2, _⟩ => exact Nat.zero_add _
  | ⟨3, _⟩ => exact Nat.zero_add _
  | ⟨4, _⟩ => exact Nat.zero_add _

/-- A pair of the fold for the first greatest value: not above the target, and not before it where it attains it. -/
def Behind (M : EReal) (K : ℕ) (a : Ideal .f32 × BitVec 32) : Prop := a.1 ≤ M ∧ (a.1 = M → (K : ℤ) ≤ a.2.toInt)

/-- The fold's step keeps one of two pairs. -/
theorem step_cases (a b : Ideal .f32 × BitVec 32) : reducer_argmax_f32_i32 (F := Ideal) a b =
    if b.1 < a.1 ∨ (a.1 = b.1 ∧ a.2.toInt < b.2.toInt) then a else b := by
  obtain ⟨a1, a2⟩ := a
  obtain ⟨b1, b2⟩ := b
  have e1 : FloatOps.cmpf (F := Ideal) (φ := .f32) .ogt a1 b1 = BitVec.ofBool (decide (b1 < a1)) := rfl
  have e2 : FloatOps.cmpf (F := Ideal) (φ := .f32) .une a1 a1 = 0#1 := by
    show BitVec.ofBool (decide (a1 ≠ a1)) = _
    simp
  have e3 : FloatOps.cmpf (F := Ideal) (φ := .f32) .oeq a1 b1 = BitVec.ofBool (decide (a1 = b1)) := rfl
  have e4 : IntOp.cmpi .slt a2 b2 = BitVec.ofBool (decide (a2.toInt < b2.toInt)) := rfl
  simp only [reducer_argmax_f32_i32, e1, e2, e3, e4]
  by_cases h1 : b1 < a1
  · simp only [h1, decide_true, Scalar.select, IntOp.ori, IntOp.andi, true_or, if_true]
    cases decide (a1 = b1) <;> cases decide (a2.toInt < b2.toInt) <;> rfl
  · by_cases h2 : a1 = b1
    · subst h2
      by_cases h3 : a2.toInt < b2.toInt <;> simp [h3, Scalar.select, IntOp.ori, IntOp.andi]
    · simp [h1, h2, Scalar.select, IntOp.ori, IntOp.andi]

/-- The fold reaches the target once the target is among the pairs, whatever their order. -/
theorem foldl_target {M : EReal} {K : ℕ} (hK : K < 2 ^ 31) (L : List (Ideal .f32 × BitVec 32)) :
    ∀ a, Behind M K a → (∀ p ∈ L, Behind M K p) → (a = (M, BitVec.ofNat 32 K) ∨ (M, BitVec.ofNat 32 K) ∈ L) →
      L.foldl (reducer_argmax_f32_i32 (F := Ideal)) a = (M, BitVec.ofNat 32 K) := by
  induction L with
  | nil => intro a _ _ h; simpa using h
  | cons b L ih =>
    intro a ha hL h
    have hb := hL b (by simp)
    rw [List.foldl_cons, step_cases]
    refine ih _ (by split <;> assumption) (fun p hp => hL p (by simp [hp])) ?_
    have far : ∀ p : Ideal .f32 × BitVec 32, Behind M K p → ¬ (M < p.1) ∧ ¬ (p.1 = M ∧ p.2.toInt < (K : ℤ)) :=
      fun p hp => ⟨not_lt.mpr hp.1, fun h => absurd (hp.2 h.1) (not_le.mpr h.2)⟩
    rcases h with h | h
    · subst h
      left
      split
      · rfl
      · rename_i hn
        have e1 : b.1 = M := le_antisymm hb.1 (not_lt.mp fun h => hn (.inl h))
        have e2 := hb.2 e1
        have e3 : ¬ (K : ℤ) < b.2.toInt := fun h => hn (.inr ⟨e1.symm, by rw [toInt_ofNat hK]; exact h⟩)
        refine Prod.ext e1 (BitVec.eq_of_toInt_eq ?_)
        rw [toInt_ofNat hK]; omega
    · rcases List.mem_cons.mp h with h | h
      · subst h
        left
        rw [if_neg]
        rintro (h | ⟨h1, h2⟩)
        · exact (far a ha).1 h
        · exact (far a ha).2 ⟨h1, by rwa [toInt_ofNat hK] at h2⟩
      · exact .inr h

/-- The cell at row `r` and column `c`, in row order. -/
def cell (r c : Fin 100) : Fin 10000 := ⟨100 * r.val + c.val, by omega⟩

/-- Every place of the row order is a cell's. -/
theorem cell_split (k : Fin 10000) : ∃ r c, k = cell r c :=
  ⟨⟨k.val / 100, by omega⟩, ⟨k.val % 100, by omega⟩, Fin.ext (by simp only [cell]; omega)⟩

/-- The reference's arg-max is the first best cell's place. -/
theorem best_apply (x : FVec Ideal S16x32x10000 .f32) (b : Fin 16) (n : Fin 32) {R C : Fin 100}
    (h : First (fun r c => x (ix3 b n (cell r c))) R C) :
    (Host.argReduce (reducer_argmax_f32_i32 (F := Ideal)) x (iotaInDim S16x32x10000 32 2) (constant S_ .f32 0xFF800000#32)
      (constantI S_ 32 0#32) reducesTo_S16x32x10000_S16x32_d2 h_S_ (ix2 b n)).2 = BitVec.ofNat 32 (100 * R.val + C.val) := by
  rw [Ideal.argReduce_eq_reduce2, Host.reduce2_eq_foldl_fiber]
  have key := foldl_target (M := x (ix3 b n (cell R C))) (K := 100 * R.val + C.val) (by omega)
    (Host.argReduceFiber x (iotaInDim S16x32x10000 32 2) reducesTo_S16x32x10000_S16x32_d2 (ix2 b n))
    (constant (F := Ideal) S_ .f32 0xFF800000#32 (Shape.Idx.first h_S_), constantI S_ 32 0#32 (Shape.Idx.first h_S_)) ?_ ?_ ?_
  · rw [key]
  · have e : constant (F := Ideal) S_ .f32 0xFF800000#32 (Shape.Idx.first h_S_) = ⊥ := cBot
    rw [e]
    refine ⟨bot_le, fun hm => ?_⟩
    have h0 := h.2 0 0 (le_antisymm (h.1 0 0) (by
      have hm : (⊥ : EReal) = x (ix3 b n (cell R C)) := hm
      show x (ix3 b n (cell R C)) ≤ _
      rw [← hm]; exact bot_le))
    show ((100 * R.val + C.val : ℕ) : ℤ) ≤ (0#32 : BitVec 32).toInt
    have : (0#32 : BitVec 32).toInt = 0 := rfl
    rw [this]
    have h0 : 100 * R.val + C.val ≤ 0 := h0
    omega
  · intro p hp
    simp only [Host.argReduceFiber, List.mem_map, List.mem_filter, List.mem_finRange, true_and, decide_eq_true_eq] at hp
    obtain ⟨m, hm, rfl⟩ := hp
    obtain ⟨k, hk⟩ := (Shape.ReducesTo.fiber_r3_a2 _ _ _).mp hm
    obtain ⟨r, c, rfl⟩ := cell_split k
    rw [← hk]
    have e : iotaInDim S16x32x10000 32 2 (ix3 b n (cell r c)) = BitVec.ofNat 32 (100 * r.val + c.val) := rfl
    refine ⟨h.1 r c, fun he => ?_⟩
    show _ ≤ (iotaInDim S16x32x10000 32 2 (ix3 b n (cell r c))).toInt
    rw [e, toInt_ofNat (by omega)]
    exact_mod_cast h.2 r c he
  · right
    simp only [Host.argReduceFiber, List.mem_map, List.mem_filter, List.mem_finRange, true_and, decide_eq_true_eq]
    refine ⟨S16x32x10000.rowMajor (ix3 b n (cell R C)), ?_, ?_⟩
    · rw [Equiv.symm_apply_apply]
      exact (Shape.ReducesTo.fiber_r3_a2 _ _ _).mpr ⟨cell R C, rfl⟩
    · rw [Equiv.symm_apply_apply]; rfl

end Cert.ReferenceIdeal.Ops

end
-- ==== Proof.RefValue.lean ====
/- What the reference computes: stage by stage, each result read at an index, over the extended reals. -/
module

public import proofs.«01_k».proof.Proof.Best
public import proofs.«01_k».proof.Proof.Loss

@[expose] public section

set_option maxRecDepth 16384
set_option maxHeartbeats 2000000

noncomputable section

namespace Cert.ReferenceIdeal.Ops

open Cert.ReferenceIdeal Cert.ReferenceIdeal.Gen Idealize.ShloMosaic Idealize.ShloMosaic.TcCoe Idealize.SL.Sem
  Idealize.ShloMosaic.StableHlo Cert.Maths

/-- An image's number with the wrap of negative numbers: itself. -/
theorem image_word : ∀ b : Fin 16, Scalar.select (IntOp.cmpi .slt (BitVec.ofNat 32 b.val) 0#32)
    (IntOp.addi (BitVec.ofNat 32 b.val) 16#32) (BitVec.ofNat 32 b.val) = BitVec.ofNat 32 b.val := by decide +kernel

/-- A label with the same wrap. -/
theorem label_word : ∀ l : Fin 80, Scalar.select (IntOp.cmpi .slt (BitVec.ofNat 32 l.val) 0#32)
    (IntOp.addi (BitVec.ofNat 32 l.val) 80#32) (BitVec.ofNat 32 l.val) = BitVec.ofNat 32 l.val := by decide +kernel

/-- The quotient by 100, rounded down as the reference does. -/
def rowWord (k : BitVec 32) : BitVec 32 :=
  Scalar.select
    (IntOp.andi
      (IntOp.cmpi .ne (if k = 0 then 0 else if BitVec.msb k = true then -1 else 1)
        (if (100#32 : BitVec 32) = 0 then 0 else if BitVec.msb (100#32) = true then -1 else (1 : BitVec 32)))
      (IntOp.cmpi .ne (IntOp.remsi .host k 100#32) 0#32))
    (IntOp.subi (IntOp.divsi .host k 100#32) 1#32) (IntOp.divsi .host k 100#32)

/-- The remainder by 100 of the same. -/
def colWord (k : BitVec 32) : BitVec 32 :=
  let d : BitVec 32 := Scalar.select (IntOp.cmpi .eq 100#32 0#32) 1#32 100#32
  Scalar.select
    (IntOp.andi (IntOp.cmpi .ne (IntOp.cmpi .slt (IntOp.remsi .host k d) 0#32) (IntOp.cmpi .slt d 0#32))
      (IntOp.cmpi .ne (IntOp.remsi .host k d) 0#32))
    (IntOp.addi (IntOp.remsi .host k d) d) (IntOp.remsi .host k d)

/-- At a cell's place the quotient is the cell's row. -/
theorem rowWord_eq : ∀ R C : Fin 100, rowWord (BitVec.ofNat 32 (100 * R.val + C.val)) = BitVec.ofNat 32 R.val := by
  decide +kernel

/-- And the remainder its column. -/
theorem colWord_eq : ∀ R C : Fin 100, colWord (BitVec.ofNat 32 (100 * R.val + C.val)) = BitVec.ofNat 32 C.val := by
  decide +kernel

/-- The reference's test of a coordinate against the window about `R`. -/
theorem near_word : ∀ R r : Fin 100,
    IntOp.andi (IntOp.cmpi .sge (BitVec.ofNat 32 r.val) (IntOp.subi (BitVec.ofNat 32 R.val) 2#32))
      (IntOp.cmpi .sle (BitVec.ofNat 32 r.val) (IntOp.minsi (IntOp.addi (BitVec.ofNat 32 R.val) 1#32) 99#32)) =
      BitVec.ofBool (decide (near R r)) := by
  decide +kernel

/-- A bit as a number. -/
theorem uitofp_ofBool (p : Prop) [Decidable p] : FloatOps.uitofp (F := Ideal) .f32 (BitVec.ofBool (decide p)) = if p then 1 else 0 := by
  show (((BitVec.ofBool (decide p)).toNat : ℝ) : EReal) = _
  by_cases h : p <;> simp [h]

variable (V : Valuation τ sig (Elt Ideal))

/-- The boxes as the later stages read them. -/
theorem truth_apply (b : Fin 16) (n : Fin 32) (k : Fin 4) :
    (after opsGather V (Proc.devRef .tc main_v17) : FVec Ideal S16x32x1x1x4 .f32) (ix5 b n (0 : Fin 1) (0 : Fin 1) k)
      = (V (Proc.devRef .tc main_arg1) : FVec Ideal S16x32x4 .f32) (ix3 b n k) := by
  simp only [opsGather, TRef.binary, TRef.nullary, TRef.ternary, TRef.unary, TRef.quaternary, TRef.toBuf, TRef.ofBuf, cast_eq]
  after_results_simp
  pointwise

/-- The coordinates of a grid's axes. -/
theorem axis_apply (r : Fin 100) :
    (after opsGather V (Proc.devRef .tc main_v0) : IVec S100 32) (ix1 r) = BitVec.ofNat 32 r.val
      ∧ (after opsGather V (Proc.devRef .tc main_v1) : IVec S100 32) (ix1 r) = BitVec.ofNat 32 r.val := by
  simp only [opsGather, TRef.binary, TRef.nullary, TRef.ternary, TRef.unary, TRef.quaternary, TRef.toBuf, TRef.ofBuf, cast_eq]
  constructor <;> (after_results_simp; rfl)

/-- The class map of each box. -/
theorem map_apply (L : Fin 16 → Fin 32 → Fin 80)
    (hL : ∀ b n, (V (Proc.devRef .tc main_arg2) : IVec S16x32 32) (ix2 b n) = BitVec.ofNat 32 (L b n).val)
    (b : Fin 16) (n : Fin 32) (r c : Fin 100) (k : Fin 4) :
    (after opsGather V (Proc.devRef .tc main_v16) : FVec Ideal S16x32x100x100x4 .f32) (ix5 b n r c k)
      = (V (Proc.devRef .tc main_arg0) : FVec Ideal S16x80x100x100x4 .f32) (ix5 b (L b n) r c k) := by
  simp only [opsGather, TRef.binary, TRef.nullary, TRef.ternary, TRef.unary, TRef.quaternary, TRef.toBuf, TRef.ofBuf, cast_eq]
  after_results_simp
  refine gather_apply (F := Ideal) _ _ b n b (L b n) ?_ ?_ r c k
  · pointwise [pair]
    exact image_word b
  · pointwise [pair]
    rw [hL]
    exact label_word _

/-- The generalised overlaps. -/
theorem overlap_apply (b : Fin 16) (n : Fin 32) (r c : Fin 100) (p q : Fin 4 → EReal)
    (hp : ∀ k, (V (Proc.devRef .tc main_v16) : FVec Ideal S16x32x100x100x4 .f32) (ix5 b n r c k) = p k)
    (hq : ∀ k, (V (Proc.devRef .tc main_v17) : FVec Ideal S16x32x1x1x4 .f32) (ix5 b n (0 : Fin 1) (0 : Fin 1) k) = q k) :
    (after opsGiou2 (after opsGiou1 V) (Proc.devRef .tc main_v78) : FVec Ideal S16x32x100x100 .f32) (ix4 b n r c) =
      overlap (hullClipped (q 0) (q 1) (q 2) (q 3) (p 0) (p 1) (p 2) (p 3)) (inter (q 0) (q 1) (q 2) (q 3) (p 0) (p 1) (p 2) (p 3))
        (union (q 0) (q 1) (q 2) (q 3) (p 0) (p 1) (p 2) (p 3)) := by
  obtain rfl : (fun k => (V (Proc.devRef .tc main_v16) : FVec Ideal S16x32x100x100x4 .f32) (ix5 b n r c k)) = p := funext hp
  obtain rfl : (fun k => (V (Proc.devRef .tc main_v17) : FVec Ideal S16x32x1x1x4 .f32) (ix5 b n (0 : Fin 1) (0 : Fin 1) k)) = q := funext hq
  simp only [opsGiou2, opsGiou1, TRef.binary, TRef.nullary, TRef.ternary, TRef.unary, TRef.quaternary, TRef.toBuf, TRef.ofBuf, cast_eq]
  after_results_simp
  pointwise [overlap, hullClipped, inter, union]

/-- The overlaps laid out in row order. -/
theorem flat_apply (b : Fin 16) (n : Fin 32) (r c : Fin 100) :
    (after opsGiou2 V (Proc.devRef .tc main_v79) : FVec Ideal S16x32x10000 .f32) (ix3 b n (cell r c)) =
      (after opsGiou2 V (Proc.devRef .tc main_v78) : FVec Ideal S16x32x100x100 .f32) (ix4 b n r c) := by
  have h : (after opsGiou2 V (Proc.devRef .tc main_v79) : FVec Ideal S16x32x10000 .f32) =
      shapeCast S16x32x10000 (after opsGiou2 V (Proc.devRef .tc main_v78) : FVec Ideal S16x32x100x100 .f32) shapeCasts_S16x32x100x100_S16x32x10000 := by
    simp only [opsGiou2]
    after_results_simp
    rfl
  rw [h]
  generalize (after opsGiou2 V (Proc.devRef .tc main_v78) : FVec Ideal S16x32x100x100 .f32) = g
  pointwise
  have e1 : (⟨(cell r c).val / 100, by have := (cell r c).isLt; omega⟩ : Fin 100) = r := Fin.ext (by simp only [cell]; omega)
  have e2 : (⟨(cell r c).val % 100, by omega⟩ : Fin 100) = c := Fin.ext (by simp only [cell]; omega)
  exact congrArg₂ (fun r c => g (ix4 b n r c)) e1 e2

/-- The place of the first best cell, and the best value. -/
theorem best_stage (b : Fin 16) (n : Fin 32) {R C : Fin 100}
    (h : First (fun r c => (V (Proc.devRef .tc main_v79) : FVec Ideal S16x32x10000 .f32) (ix3 b n (cell r c))) R C) :
    (after opsBest V (Proc.devRef .tc main_v80) : IVec S16x32 32) (ix2 b n) = BitVec.ofNat 32 (100 * R.val + C.val)
      ∧ (after opsBest V (Proc.devRef .tc main_v81) : FVec Ideal S16x32 .f32) (ix2 b n)
        = (V (Proc.devRef .tc main_v79) : FVec Ideal S16x32x10000 .f32) (ix3 b n (cell R C)) := by
  simp only [opsBest, TRef.binary, TRef.nullary, TRef.ternary, TRef.unary, TRef.quaternary, TRef.toBuf, TRef.ofBuf, cast_eq]
  constructor
  · after_results_simp
    exact best_apply _ b n h
  · after_results_simp
    pointwise
    rw [cBot]
    refine le_antisymm (α := EReal) ?_ ?_
    · refine Finset.fold_max_le _ |>.mpr ⟨bot_le, fun k _ => ?_⟩
      obtain ⟨r, c, rfl⟩ := cell_split k
      exact h.1 r c
    · exact Finset.le_fold_max _ |>.mpr (.inr ⟨cell R C, Finset.mem_univ _, le_rfl⟩)

/-- Its row and its column. -/
theorem cell_stage (b : Fin 16) (n : Fin 32) {R C : Fin 100}
    (h : (V (Proc.devRef .tc main_v80) : IVec S16x32 32) (ix2 b n) = BitVec.ofNat 32 (100 * R.val + C.val)) :
    (after opsCell V (Proc.devRef .tc main_v82) : IVec S16x32 32) (ix2 b n) = BitVec.ofNat 32 R.val
      ∧ (after opsCell V (Proc.devRef .tc main_v83) : IVec S16x32 32) (ix2 b n) = BitVec.ofNat 32 C.val := by
  rw [← rowWord_eq R C, ← colWord_eq R C, ← h]
  simp only [opsCell, TRef.binary, TRef.nullary, TRef.ternary, TRef.unary, TRef.quaternary, TRef.toBuf, TRef.ofBuf, cast_eq]
  constructor
  · after_results_simp
    pointwise
    rfl
  · after_results_simp
    pointwise
    rfl

/-- The window about it. -/
theorem mask_stage (b : Fin 16) (n : Fin 32) {R C : Fin 100} (r c : Fin 100)
    (hr : (V (Proc.devRef .tc main_v82) : IVec S16x32 32) (ix2 b n) = BitVec.ofNat 32 R.val)
    (hc : (V (Proc.devRef .tc main_v83) : IVec S16x32 32) (ix2 b n) = BitVec.ofNat 32 C.val)
    (h0 : (V (Proc.devRef .tc main_v0) : IVec S100 32) (ix1 r) = BitVec.ofNat 32 r.val)
    (h1 : (V (Proc.devRef .tc main_v1) : IVec S100 32) (ix1 c) = BitVec.ofNat 32 c.val) :
    (after opsMask2 (after opsMask1 V) (Proc.devRef .tc main_v123) : FVec Ideal S16x32x100x100 .f32) (ix4 b n r c) = mask R C r c := by
  simp only [opsMask1, opsMask2, TRef.binary, TRef.nullary, TRef.ternary, TRef.unary, TRef.quaternary, TRef.toBuf, TRef.ofBuf, cast_eq]
  after_results_simp
  pointwise
  rw [hr, hc, h0, h1, near_word, near_word]
  have e : IntOp.andi (BitVec.ofBool (decide (near R r))) (BitVec.ofBool (decide (near C c))) = BitVec.ofBool (decide (near R r ∧ near C c)) := by
    by_cases h1 : near R r <;> by_cases h2 : near C c <;> simp [h1, h2] <;> rfl
  rw [e, uitofp_ofBool]; rfl

/-- The sums over the window. -/
theorem sums_stage (b : Fin 16) (n : Fin 32) {R C : Fin 100}
    (hm : ∀ r c, (V (Proc.devRef .tc main_v123) : FVec Ideal S16x32x100x100 .f32) (ix4 b n r c) = mask R C r c)
    (g : Fin 100 → Fin 100 → EReal) (hg : ∀ r c, (V (Proc.devRef .tc main_v78) : FVec Ideal S16x32x100x100 .f32) (ix4 b n r c) = g r c)
    (p : Fin 100 → Fin 100 → Fin 4 → EReal) (q : Fin 4 → EReal) (t : EReal)
    (hp : ∀ r c k, (V (Proc.devRef .tc main_v16) : FVec Ideal S16x32x100x100x4 .f32) (ix5 b n r c k) = p r c k)
    (hq : ∀ k, (V (Proc.devRef .tc main_v17) : FVec Ideal S16x32x1x1x4 .f32) (ix5 b n (0 : Fin 1) (0 : Fin 1) k) = q k)
    (ht : (V (Proc.devRef .tc main_v81) : FVec Ideal S16x32 .f32) (ix2 b n) = t) :
    (after opsSums V (Proc.devRef .tc main_v135) : FVec Ideal S16x32 .f32) (ix2 b n)
        = (∑ r, ∑ c, gap (q 0) (q 1) (q 2) (q 3) (p r c 0) (p r c 1) (p r c 2) (p r c 3) * mask R C r c) * pass t
      ∧ (after opsSums V (Proc.devRef .tc main_v140) : FVec Ideal S16x32 .f32) (ix2 b n)
        = (∑ r, ∑ c, (1 - g r c) * mask R C r c) * pass t
      ∧ (after opsSums V (Proc.devRef .tc main_v142) : FVec Ideal S16x32 .f32) (ix2 b n)
        = (∑ r, ∑ c, mask R C r c) * pass t := by
  obtain rfl : (fun r c k => (V (Proc.devRef .tc main_v16) : FVec Ideal S16x32x100x100x4 .f32) (ix5 b n r c k)) = p :=
    funext fun r => funext fun c => funext (hp r c)
  obtain rfl : (fun k => (V (Proc.devRef .tc main_v17) : FVec Ideal S16x32x1x1x4 .f32) (ix5 b n (0 : Fin 1) (0 : Fin 1) k)) = q := funext hq
  subst ht
  simp only [opsSums, TRef.binary, TRef.nullary, TRef.ternary, TRef.unary, TRef.quaternary, TRef.toBuf, TRef.ofBuf, cast_eq]
  refine ⟨?_, ?_, ?_⟩
  · after_results_simp
    pointwise
    rw [mul_comm, uitofp_ofBool]
    refine congrArg₂ (· * ·) (Finset.sum_congr rfl fun r _ => Finset.sum_congr rfl fun c _ => ?_) rfl
    rw [hm, c4, Ideal.div_coe (by norm_num), Fin.sum_univ_four]
    rfl
  · after_results_simp
    pointwise
    rw [mul_comm, uitofp_ofBool]
    refine congrArg₂ (· * ·) (Finset.sum_congr rfl fun r _ => Finset.sum_congr rfl fun c _ => ?_) rfl
    rw [hm, hg]
  · after_results_simp
    pointwise
    rw [mul_comm, uitofp_ofBool]
    refine congrArg₂ (· * ·) (Finset.sum_congr rfl fun r _ => Finset.sum_congr rfl fun c _ => ?_) rfl
    rw [hm]

/-- The loss from the three sums of every box. -/
theorem total_stage : (after opsTotal V (Proc.devRef .tc main_v151) : FVec Ideal S_ .f32) ix0 =
    let s := fun b n => (V (Proc.devRef .tc main_v135) : FVec Ideal S16x32 .f32) (ix2 b n)
    let t := fun b n => (V (Proc.devRef .tc main_v140) : FVec Ideal S16x32 .f32) (ix2 b n)
    let u := fun b n => (V (Proc.devRef .tc main_v142) : FVec Ideal S16x32 .f32) (ix2 b n)
    Ideal.div (∑ b, ∑ n, s b n) (max (∑ b, ∑ n, u b n) 1)
      + Ideal.ofBits .f32 0x40000000#32 * Ideal.div (∑ b, ∑ n, t b n) (max (∑ b, ∑ n, u b n) 1) := by
  simp only [opsTotal, TRef.binary, TRef.nullary, TRef.ternary, TRef.unary, TRef.quaternary, TRef.toBuf, TRef.ofBuf, cast_eq]
  after_results_simp
  pointwise

end Cert.ReferenceIdeal.Ops

end
-- ==== Proof.RefLoss.lean ====
/- The reference's result is the loss. -/
module

public import proofs.«01_k».proof.Proof.RefValue

@[expose] public section

set_option maxRecDepth 16384
set_option maxHeartbeats 4000000

noncomputable section

namespace Cert.ReferenceIdeal.Ops

open Cert.ReferenceIdeal Cert.ReferenceIdeal.Gen Idealize.ShloMosaic Idealize.ShloMosaic.TcCoe Idealize.SL.Sem
  Idealize.ShloMosaic.StableHlo Cert.Maths

variable (V : Valuation τ sig (Elt Ideal))
  {P : Fin 16 → Fin 80 → Fin 100 → Fin 100 → Fin 4 → EReal} {G : Fin 16 → Fin 32 → Fin 4 → EReal} {L : Fin 16 → Fin 32 → Fin 80}
  (hP : ∀ b l r c k, (V (Proc.devRef .tc main_arg0) : FVec Ideal S16x80x100x100x4 .f32) (ix5 b l r c k) = P b l r c k)
  (hG : ∀ b n k, (V (Proc.devRef .tc main_arg1) : FVec Ideal S16x32x4 .f32) (ix3 b n k) = G b n k)
  (hL : ∀ b n, (V (Proc.devRef .tc main_arg2) : IVec S16x32 32) (ix2 b n) = BitVec.ofNat 32 (L b n).val)
  (ho : Ordered P G)

include hP hG hL ho

/-- The overlaps of every box. -/
theorem overlaps_eq (b : Fin 16) (n : Fin 32) (r c : Fin 100) :
    (after opsGiou2 (after opsGiou1 (after opsGather V)) (Proc.devRef .tc main_v78) : FVec Ideal S16x32x100x100 .f32) (ix4 b n r c)
      = overlaps P G L b n r c := by
  rw [overlap_apply _ b n r c (P b (L b n) r c) (G b n) (fun k => (map_apply V L hL b n r c k).trans (hP ..))
    (fun k => (truth_apply V b n k).trans (hG ..)), ho.hull_eq _ _ _ _ _ _ (ho.pred ..).1 (ho.pred ..).2]
  rfl

/-- The three sums of every box. -/
theorem sums_eq (b : Fin 16) (n : Fin 32) :
    let W := after opsSums (after opsMask2 (after opsMask1 (after opsCell (after opsBest
      (after opsGiou2 (after opsGiou1 (after opsGather V)))))))
    (W (Proc.devRef .tc main_v135) : FVec Ideal S16x32 .f32) (ix2 b n) = around (overlaps P G L b n) (gaps P G L b n)
      ∧ (W (Proc.devRef .tc main_v140) : FVec Ideal S16x32 .f32) (ix2 b n)
        = around (overlaps P G L b n) (fun r c => 1 - overlaps P G L b n r c)
      ∧ (W (Proc.devRef .tc main_v142) : FVec Ideal S16x32 .f32) (ix2 b n) = counted (overlaps P G L b n) := by
  intro W
  have hg := overlaps_eq V hP hG hL ho b n
  have hf : First (fun r c => (after opsGiou2 (after opsGiou1 (after opsGather V)) (Proc.devRef .tc main_v79) :
      FVec Ideal S16x32x10000 .f32) (ix3 b n (cell r c))) (best (overlaps P G L b n)).1 (best (overlaps P G L b n)).2 := by
    have e : (fun r c => (after opsGiou2 (after opsGiou1 (after opsGather V)) (Proc.devRef .tc main_v79) :
        FVec Ideal S16x32x10000 .f32) (ix3 b n (cell r c))) = overlaps P G L b n := by
      funext r c; exact (flat_apply _ b n r c).trans (hg r c)
    exact e ▸ best_first _
  obtain ⟨h80, h81⟩ := best_stage _ b n hf
  rw [flat_apply, hg] at h81
  obtain ⟨h82, h83⟩ := cell_stage _ b n h80
  have hm := fun r c => mask_stage _ b n r c h82 h83
    (by rw [keepCell _ main_v0 (by decide), keepBest _ main_v0 (by decide), keepGiou2 _ main_v0 (by decide),
      keepGiou1 _ main_v0 (by decide)]; exact (axis_apply V r).1)
    (by rw [keepCell _ main_v1 (by decide), keepBest _ main_v1 (by decide), keepGiou2 _ main_v1 (by decide),
      keepGiou1 _ main_v1 (by decide)]; exact (axis_apply V c).2)
  refine sums_stage _ b n hm (overlaps P G L b n) ?_ (P b (L b n)) (G b n) _ ?_ ?_ ?_
  · intro r c
    rw [keepMask2 _ main_v78 (by decide), keepMask1 _ main_v78 (by decide), keepCell _ main_v78 (by decide),
      keepBest _ main_v78 (by decide)]
    exact hg r c
  · intro r c k
    rw [keepMask2 _ main_v16 (by decide), keepMask1 _ main_v16 (by decide), keepCell _ main_v16 (by decide),
      keepBest _ main_v16 (by decide), keepGiou2 _ main_v16 (by decide), keepGiou1 _ main_v16 (by decide)]
    exact (map_apply V L hL b n r c k).trans (hP ..)
  · intro k
    rw [keepMask2 _ main_v17 (by decide), keepMask1 _ main_v17 (by decide), keepCell _ main_v17 (by decide),
      keepBest _ main_v17 (by decide), keepGiou2 _ main_v17 (by decide), keepGiou1 _ main_v17 (by decide)]
    exact (truth_apply V b n k).trans (hG ..)
  · rw [keepMask2 _ main_v81 (by decide), keepMask1 _ main_v81 (by decide), keepCell _ main_v81 (by decide)]
    exact h81

/-- The result. -/
theorem result_eq : (after ops V (Proc.devRef .tc main_v151) : FVec Ideal S_ .f32) = fun _ => loss P G L := by
  have h := sums_eq V hP hG hL ho
  funext i
  obtain rfl : i = ix0 := funext fun a => a.elim0
  rw [after_ops, total_stage]
  simp only [fun b n => (h b n).1, fun b n => (h b n).2.1, fun b n => (h b n).2.2]
  rfl

end Cert.ReferenceIdeal.Ops

end
-- ==== Proof.Algebraic.lean ====
/- Over the extended reals the kernel and the reference compute the same loss. -/
module

public import proofs.«01_k».proof.Defs
public import proofs.«01_k».proof.Proof.Value
public import proofs.«01_k».proof.Proof.Given
public import proofs.«01_k».proof.Proof.RefLoss

@[expose] public section

set_option maxRecDepth 16384

noncomputable section

namespace Cert.Proof

open Idealize.ShloMosaic Idealize.ShloMosaic.TcCoe Idealize.SL.Sem Idealize.SL.RA Cert.Maths

/-- The label of a box, as an index of a class. -/
def labelOf (l : IVec Cert.Pre_labels_in_range.S16x32 32) (h : ∀ i, (l i).toNat < 80) (b : Fin 16) (n : Fin 32) : Fin 80 :=
  ⟨(l (ix2 b n)).toNat, h _⟩

/-- On predictions in order the two results are one. -/
theorem same_value : Cert.algebraic_KernelIdeal_ReferenceIdeal_pre_predictions_ordered := by
  intro m g m' g' h heq
  have hpre := fun c => Cert.Words.labels_of_ordered _ _ _ (h c).1
  have hO := Cert.KernelIdeal.Table.ok_of_pre m hpre
  have hlt := fun c : Dev Cert.KernelIdeal.nD => Cert.Words.label_lt _ _ _ (hpre c)
  have hl : ∀ y : Cert.KernelIdeal.S512.Idx, (Cert.KernelIdeal.Gen.tbl m 0 y : BitVec 32).toNat < 80 := fun y => by
    have e := congrFun (Cert.KernelIdeal.Table.tbl_eq m) y
    rw [show (Cert.KernelIdeal.Gen.tbl m 0 y : BitVec 32) = _ from e]
    exact hlt 0 _
  let P := fun (c : Dev Cert.KernelIdeal.nD) (b : Fin 16) (l : Fin 80) (r q : Fin 100) (k : Fin 4) =>
    (m ((c.tc : Thread Cert.KernelIdeal.nD Cert.KernelIdeal.τ).loc Cert.KernelIdeal.main_arg0) : FVec Ideal Cert.KernelIdeal.S16x80x100x100x4 .f32) (ix5 b l r q k)
  let G := fun (c : Dev Cert.KernelIdeal.nD) (b : Fin 16) (n : Fin 32) (k : Fin 4) =>
    (m ((c.tc : Thread Cert.KernelIdeal.nD Cert.KernelIdeal.τ).loc Cert.KernelIdeal.main_arg1) : FVec Ideal Cert.KernelIdeal.S16x32x4 .f32) (ix3 b n k)
  let L := fun (c : Dev Cert.KernelIdeal.nD) => labelOf (m ((c.tc : Thread Cert.KernelIdeal.nD Cert.KernelIdeal.τ).loc Cert.KernelIdeal.main_arg2)) (hlt c)
  have ho : ∀ c, Ordered (P c) (G c) := fun c => Cert.Words.ordered_of_pre _ _ _ (h c).2.1 (h c).2.2
  have hL : ∀ c b n, (m ((c.tc : Thread Cert.KernelIdeal.nD Cert.KernelIdeal.τ).loc Cert.KernelIdeal.main_arg2) : IVec Cert.KernelIdeal.S16x32 32) (ix2 b n)
      = BitVec.ofNat 32 (L c b n).val := fun c b n => by
    apply BitVec.eq_of_toNat_eq
    rw [BitVec.toNat_ofNat]
    exact (Nat.mod_eq_of_lt (BitVec.isLt _)).symm
  refine ⟨fun c => (fun _ => loss (P c) (G c) (L c)), ?_, ?_⟩
  · refine (θ_run Cert.KernelIdeal.defs _ _).mono (fun r hr c => ?_)
      (θ_run_and (Cert.KernelIdeal.Region.unchanged m g hO) (Cert.KernelIdeal.Region.run m g hO))
    obtain ⟨⟨hk, -⟩, hv⟩ := hr
    refine ⟨?_, hk c⟩
    have hr : Cert.KernelIdeal.main_v19 ∈ Pipeline.restRefs Cert.KernelIdeal.sig Cert.KernelIdeal.spec0 := by decide
    refine ((hv c).2 Cert.KernelIdeal.main_v19 hr).trans ?_
    exact Cert.KernelIdeal.Value.final_eq m hO hl c (fun _ _ _ _ _ => rfl) (fun _ _ _ => rfl)
      (fun b n => by obtain rfl : c = 0 := Subsingleton.elim _ _; exact hL 0 b n) (ho c)
  · refine (θ_run Cert.ReferenceIdeal.defs _ _).mono (fun r hr c => ?_)
      (θ_run_and (Cert.ReferenceIdeal.Ops.unchanged m' g') (Cert.ReferenceIdeal.Ops.run m' g'))
    obtain ⟨⟨hk, -⟩, hv⟩ := hr
    refine ⟨?_, hk c⟩
    refine (hv c Cert.ReferenceIdeal.main_v151).trans ?_
    obtain ⟨e0, e1, e2⟩ := heq c
    exact Cert.ReferenceIdeal.Ops.result_eq _ (fun b l r q k => congrFun e0 (ix5 b l r q k)) (fun b n k => congrFun e1 (ix3 b n k))
      (fun b n => (congrFun e2 (ix2 b n)).trans (hL c b n)) (ho c)

end Cert.Proof

end
-- ==== Proof.lean ====
/- The claims about the kernel, put together. -/
module

public import proofs.«01_k».proof.Defs
public import proofs.«01_k».proof.Proof.Frames
public import proofs.«01_k».proof.Proof.Algebraic

@[expose] public section

namespace Cert.Proof

/-- The frames, and that the kernel and the reference compute one value. -/
theorem claim : Cert.Claim :=
  ⟨Cert.Kernel.Gen.facts, Cert.KernelIdeal.Gen.facts, Cert.ReferenceIdeal.Gen.facts, Cert.Pre_labels_in_range.Gen.facts,
    Cert.Pre_predictions_ordered.Gen.facts, frame_kernel, frame_kernelIdeal, frame_kernelIdeal_ordered, frame_reference,
    frame_reference_ordered, trivial, same_value⟩

end Cert.Proof
